-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64 : Shape := ⟨1, ![64]⟩
abbrev S64x1 : Shape := ⟨2, ![64, 1]⟩
abbrev S_ : Shape := ⟨0, ![]⟩
abbrev S64x8192 : Shape := ⟨2, ![64, 8192]⟩
abbrev S64x512 : Shape := ⟨2, ![64, 512]⟩

abbrev nBuf : Space → Nat
  | .hbm => 10
  | .vmem => 7
  | .smem => 0
  | _ => 0

abbrev bufTy : (tb : Table) → Fin (tcTables nBuf tb) → BufTy
  | .hbm, ⟨0, _⟩ => ⟨S64x1000000, .f32⟩
  | .hbm, ⟨1, _⟩ => ⟨S64, .f32⟩
  | .hbm, ⟨2, _⟩ => ⟨S64x1, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S64x1, .i32⟩
  | .hbm, ⟨8, _⟩ => ⟨S64x1, .i32⟩
  | .hbm, ⟨9, _⟩ => ⟨S64, .i32⟩
  | .local _ .vmem, ⟨0, _⟩ => ⟨S64x1, .f32⟩
  | .local _ .vmem, ⟨1, _⟩ => ⟨S64x1, .i32⟩
  | .local _ .vmem, ⟨2, _⟩ => ⟨S64x8192, .f32⟩
  | .local _ .vmem, ⟨3, _⟩ => ⟨S64x8192, .f32⟩
  | .local _ .vmem, ⟨4, _⟩ => ⟨S64x1, .i32⟩
  | .local _ .vmem, ⟨5, _⟩ => ⟨S64x512, .f32⟩
  | .local _ .vmem, ⟨6, _⟩ => ⟨S64x512, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![123], ![false]⟩

@[reducible] def k0_t1_loop : Scf.Loop 32 :=
  let c0_i32_16 : BitVec 32 := 0#32
  let c16_i32 : BitVec 32 := 16#32
  let v22 : BitVec 32 := Scalar.addi c0_i32_16 c16_i32
  let c1_i32 : BitVec 32 := 1#32
  ⟨c0_i32_16, v22, c1_i32⟩
def k0_off1 (k0_t1 : Fin k0_t1_loop.trips) : Fin 2 → Nat :=
  let c0_23 : Index := 0#32
  let c0_i32_16 : BitVec 32 := 0#32
  let c1_i32 : BitVec 32 := 1#32
  let arg7 : BitVec 32 := Scf.iv c0_i32_16 c1_i32 k0_t1
  let c512_i32 : BitVec 32 := 512#32
  let v33 : BitVec 32 := Scalar.muli arg7 c512_i32
  let v34 : Index := Scalar.indexCast v33
  ![0, v34.toNat]
def k0_cond1 (i : grid0.Coords) : BitVec 1 :=
  let arg0 : BitVec 32 := BitVec.ofNat 32 (i 0).val
  let c122_i32 : BitVec 32 := 122#32
  let v30 : BitVec 1 := Scalar.cmpi .eq arg0 c122_i32
  let v31 : BitVec 32 := Scalar.extui v30
  let c0_i32_22 : BitVec 32 := 0#32
  let v32 : BitVec 1 := Scalar.cmpi .ne v31 c0_i32_22
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x1000000 : Shape := ⟨2, ![64, 1000000]⟩
abbrev S64 : Shape := ⟨1, ![64]⟩
abbrev S_ : Shape := ⟨0, ![]⟩
abbrev S64x1 : Shape := ⟨2, ![64, 1]⟩
abbrev S1 : Shape := ⟨1, ![1]⟩
abbrev S2 : Shape := ⟨1, ![2]⟩

abbrev nBuf : Space → Nat
  | .hbm => 300
  | .vmem => 0
  | .smem => 0
  | _ => 0

abbrev hbmTy0_0 (i : Nat) : BufTy := match i % 128 with
  | 0 => ⟨S64x1000000, .f32⟩
  | 1 => ⟨S64, .f32⟩
  | 2 => ⟨S_, .f32⟩
  | 3 => ⟨S64, .f32⟩
  | 4 => ⟨S64, .i1⟩
  | 5 => ⟨S_, .f32⟩
  | 6 => ⟨S64, .f32⟩
  | 7 => ⟨S64, .f32⟩
  | 8 => ⟨S64x1, .f32⟩
  | 9 => ⟨S64x1000000, .f32⟩
  | 10 => ⟨S64x1000000, .f32⟩
  | 11 => ⟨S64x1000000, .i32⟩
  | 12 => ⟨S_, .f32⟩
  | 13 => ⟨S_, .i32⟩
  | 14 => ⟨S64, .f32⟩
  | 15 => ⟨S64, .i32⟩
  | 16 => ⟨S_, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S1, .i32⟩
  | 25 => ⟨S2, .i32⟩
  | 26 => ⟨S1, .i32⟩
  | 27 => ⟨S_, .i32⟩
  | 28 => ⟨S1, .i32⟩
  | 29 => ⟨S_, .i32⟩
  | 30 => ⟨S64x1000000, .i64⟩
  | 31 => ⟨S64x1000000, .i64⟩
  | 32 => ⟨S_, .i64⟩
  | 33 => ⟨S64x1000000, .i64⟩
  | 34 => ⟨S64x1000000, .i64⟩
  | 35 => ⟨S_, .i64⟩
  | 36 => ⟨S64x1000000, .i64⟩
  | 37 => ⟨S64x1000000, .i64⟩
  | 38 => ⟨S64x1000000, .i64⟩
  | 39 => ⟨S_, .i64⟩
  | 40 => ⟨S64x1000000, .i64⟩
  | 41 => ⟨S64x1000000, .i64⟩
  | 42 => ⟨S64x1000000, .i32⟩
  | 43 => ⟨S64x1000000, .i32⟩
  | 44 => ⟨S_, .i32⟩
  | 45 => ⟨S_, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S_, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S64x1000000, .i32⟩
  | 5 => ⟨S64x1000000, .i32⟩
  | 6 => ⟨S_, .i32⟩
  | 7 => ⟨S64x1000000, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S_, .i32⟩
  | 14 => ⟨S64x1000000, .i32⟩
  | 15 => ⟨S64x1000000, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S_, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S64x1000000, .i32⟩
  | 45 => ⟨S64x1000000, .i32⟩
  | 46 => ⟨S64x1000000, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S_, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S64x1000000, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S64x1000000, .i32⟩
  | 11 => ⟨S_, .i32⟩
  | 12 => ⟨S64x1000000, .i32⟩
  | 13 => ⟨S64x1000000, .i32⟩
  | 14 => ⟨S_, .i32⟩
  | 15 => ⟨S64x1000000, .i32⟩
  | 16 => ⟨S64x1000000, .i32⟩
  | 17 => ⟨S64x1000000, .f32⟩
  | 18 => ⟨S_, .f32⟩
  | 19 => ⟨S64x1000000, .f32⟩
  | 20 => ⟨S64x1000000, .f32⟩
  | 21 => ⟨S_, .f32⟩
  | 22 => ⟨S64x1000000, .f32⟩
  | 23 => ⟨S64x1000000, .f32⟩
  | 24 => ⟨S_, .f32⟩
  | 25 => ⟨S64x1000000, .f32⟩
  | 26 => ⟨S64x1000000, .f32⟩
  | 27 => ⟨S_, .f32⟩
  | 28 => ⟨S64x1000000, .f32⟩
  | 29 => ⟨S64x1000000, .f32⟩
  | 30 => ⟨S64x1000000, .f32⟩
  | 31 => ⟨S64x1000000, .f32⟩
  | 32 => ⟨S64x1000000, .f32⟩
  | 33 => ⟨S64x1000000, .f32⟩
  | 34 => ⟨S64x1000000, .f32⟩
  | 35 => ⟨S64x1000000, .i32⟩
  | 36 => ⟨S_, .f32⟩
  | 37 => ⟨S_, .i32⟩
  | 38 => ⟨S64, .f32⟩
  | 39 => ⟨S64, .i32⟩
  | 40 => ⟨S_, .f32⟩
  | 41 => ⟨S64, .f32⟩
  | 42 => ⟨S64, .i1⟩
  | 43 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v7 : Ref sig .tc := ⟨.hbm, 15, rfl⟩
abbrev main_c : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_c_0 : Ref sig .tc := ⟨.hbm, 52, rfl⟩
abbrev main_call2_v7 : Ref sig .tc := ⟨.hbm, 53, rfl⟩
abbrev main_call2_v8 : Ref sig .tc := ⟨.hbm, 54, rfl⟩
abbrev main_call2_c_1 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_c_2 : Ref sig .tc := ⟨.hbm, 61, rfl⟩
abbrev main_call2_v14 : Ref sig .tc := ⟨.hbm, 62, rfl⟩
abbrev main_call2_v15 : Ref sig .tc := ⟨.hbm, 63, rfl⟩
abbrev main_call2_c_3 : Ref sig .tc := ⟨.hbm, 64, rfl⟩
abbrev main_call2_v16 : Ref sig .tc := ⟨.hbm, 65, rfl⟩
abbrev main_call2_v17 : Ref sig .tc := ⟨.hbm, 66, rfl⟩
abbrev main_call2_v18 : Ref sig .tc := ⟨.hbm, 67, rfl⟩
abbrev main_call2_v19 : Ref sig .tc := ⟨.hbm, 68, rfl⟩
abbrev main_call2_v20 : Ref sig .tc := ⟨.hbm, 69, rfl⟩
abbrev main_call2_c_4 : Ref sig .tc := ⟨.hbm, 70, rfl⟩
abbrev main_call2_v21 : Ref sig .tc := ⟨.hbm, 71, rfl⟩
abbrev main_call2_v22 : Ref sig .tc := ⟨.hbm, 72, rfl⟩
abbrev main_call2_c_5 : Ref sig .tc := ⟨.hbm, 73, rfl⟩
abbrev main_call2_v23 : Ref sig .tc := ⟨.hbm, 74, rfl⟩
abbrev main_call2_v24 : Ref sig .tc := ⟨.hbm, 75, rfl⟩
abbrev main_call2_v25 : Ref sig .tc := ⟨.hbm, 76, rfl⟩
abbrev main_call2_v26 : Ref sig .tc := ⟨.hbm, 77, rfl⟩
abbrev main_call2_v27 : Ref sig .tc := ⟨.hbm, 78, rfl⟩
abbrev main_call2_c_6 : Ref sig .tc := ⟨.hbm, 79, rfl⟩
abbrev main_call2_v28 : Ref sig .tc := ⟨.hbm, 80, rfl⟩
abbrev main_call2_v29 : Ref sig .tc := ⟨.hbm, 81, rfl⟩
abbrev main_call2_c_7 : Ref sig .tc := ⟨.hbm, 82, rfl⟩
abbrev main_call2_v30 : Ref sig .tc := ⟨.hbm, 83, rfl⟩
abbrev main_call2_v31 : Ref sig .tc := ⟨.hbm, 84, rfl⟩
abbrev main_call2_v32 : Ref sig .tc := ⟨.hbm, 85, rfl⟩
abbrev main_call2_v33 : Ref sig .tc := ⟨.hbm, 86, rfl⟩
abbrev main_call2_v34 : Ref sig .tc := ⟨.hbm, 87, rfl⟩
abbrev main_call2_v35 : Ref sig .tc := ⟨.hbm, 88, rfl⟩
abbrev main_call2_v36 : Ref sig .tc := ⟨.hbm, 89, rfl⟩
abbrev main_call2_v37 : Ref sig .tc := ⟨.hbm, 90, rfl⟩
abbrev main_call2_c_8 : Ref sig .tc := ⟨.hbm, 91, rfl⟩
abbrev main_call2_v38 : Ref sig .tc := ⟨.hbm, 92, rfl⟩
abbrev main_call2_v39 : Ref sig .tc := ⟨.hbm, 93, rfl⟩
abbrev main_call2_v40 : Ref sig .tc := ⟨.hbm, 94, rfl⟩
abbrev main_call2_c_9 : Ref sig .tc := ⟨.hbm, 95, rfl⟩
abbrev main_call2_v41 : Ref sig .tc := ⟨.hbm, 96, rfl⟩
abbrev main_call2_v42 : Ref sig .tc := ⟨.hbm, 97, rfl⟩
abbrev main_call2_c_10 : Ref sig .tc := ⟨.hbm, 98, rfl⟩
abbrev main_call2_v43 : Ref sig .tc := ⟨.hbm, 99, rfl⟩
abbrev main_call2_v44 : Ref sig .tc := ⟨.hbm, 100, rfl⟩
abbrev main_call2_v45 : Ref sig .tc := ⟨.hbm, 101, rfl⟩
abbrev main_call2_v46 : Ref sig .tc := ⟨.hbm, 102, rfl⟩
abbrev main_call2_v47 : Ref sig .tc := ⟨.hbm, 103, rfl⟩
abbrev main_call2_c_11 : Ref sig .tc := ⟨.hbm, 104, rfl⟩
abbrev main_call2_v48 : Ref sig .tc := ⟨.hbm, 105, rfl⟩
abbrev main_call2_v49 : Ref sig .tc := ⟨.hbm, 106, rfl⟩
abbrev main_call2_c_12 : Ref sig .tc := ⟨.hbm, 107, rfl⟩
abbrev main_call2_v50 : Ref sig .tc := ⟨.hbm, 108, rfl⟩
abbrev main_call2_v51 : Ref sig .tc := ⟨.hbm, 109, rfl⟩
abbrev main_call2_v52 : Ref sig .tc := ⟨.hbm, 110, rfl⟩
abbrev main_call2_v53 : Ref sig .tc := ⟨.hbm, 111, rfl⟩
abbrev main_call2_v54 : Ref sig .tc := ⟨.hbm, 112, rfl⟩
abbrev main_call2_c_13 : Ref sig .tc := ⟨.hbm, 113, rfl⟩
abbrev main_call2_v55 : Ref sig .tc := ⟨.hbm, 114, rfl⟩
abbrev main_call2_v56 : Ref sig .tc := ⟨.hbm, 115, rfl⟩
abbrev main_call2_c_14 : Ref sig .tc := ⟨.hbm, 116, rfl⟩
abbrev main_call2_v57 : Ref sig .tc := ⟨.hbm, 117, rfl⟩
abbrev main_call2_v58 : Ref sig .tc := ⟨.hbm, 118, rfl⟩
abbrev main_call2_v59 : Ref sig .tc := ⟨.hbm, 119, rfl⟩
abbrev main_call2_v60 : Ref sig .tc := ⟨.hbm, 120, rfl⟩
abbrev main_call2_v61 : Ref sig .tc := ⟨.hbm, 121, rfl⟩
abbrev main_call2_c_15 : Ref sig .tc := ⟨.hbm, 122, rfl⟩
abbrev main_call2_v62 : Ref sig .tc := ⟨.hbm, 123, rfl⟩
abbrev main_call2_v63 : Ref sig .tc := ⟨.hbm, 124, rfl⟩
abbrev main_call2_c_16 : Ref sig .tc := ⟨.hbm, 125, rfl⟩
abbrev main_call2_v64 : Ref sig .tc := ⟨.hbm, 126, rfl⟩
abbrev main_call2_v65 : Ref sig .tc := ⟨.hbm, 127, rfl⟩
abbrev main_call2_v66 : Ref sig .tc := ⟨.hbm, 128, rfl⟩
abbrev main_call2_v67 : Ref sig .tc := ⟨.hbm, 129, rfl⟩
abbrev main_call2_v68 : Ref sig .tc := ⟨.hbm, 130, rfl⟩
abbrev main_call2_v69 : Ref sig .tc := ⟨.hbm, 131, rfl⟩
abbrev main_call2_v70 : Ref sig .tc := ⟨.hbm, 132, rfl⟩
abbrev main_call2_v71 : Ref sig .tc := ⟨.hbm, 133, rfl⟩
abbrev main_call2_c_17 : Ref sig .tc := ⟨.hbm, 134, rfl⟩
abbrev main_call2_v72 : Ref sig .tc := ⟨.hbm, 135, rfl⟩
abbrev main_call2_v73 : Ref sig .tc := ⟨.hbm, 136, rfl⟩
abbrev main_call2_v74 : Ref sig .tc := ⟨.hbm, 137, rfl⟩
abbrev main_call2_c_18 : Ref sig .tc := ⟨.hbm, 138, rfl⟩
abbrev main_call2_v75 : Ref sig .tc := ⟨.hbm, 139, rfl⟩
abbrev main_call2_v76 : Ref sig .tc := ⟨.hbm, 140, rfl⟩
abbrev main_call2_c_19 : Ref sig .tc := ⟨.hbm, 141, rfl⟩
abbrev main_call2_v77 : Ref sig .tc := ⟨.hbm, 142, rfl⟩
abbrev main_call2_v78 : Ref sig .tc := ⟨.hbm, 143, rfl⟩
abbrev main_call2_v79 : Ref sig .tc := ⟨.hbm, 144, rfl⟩
abbrev main_call2_v80 : Ref sig .tc := ⟨.hbm, 145, rfl⟩
abbrev main_call2_v81 : Ref sig .tc := ⟨.hbm, 146, rfl⟩
abbrev main_call2_c_20 : Ref sig .tc := ⟨.hbm, 147, rfl⟩
abbrev main_call2_v82 : Ref sig .tc := ⟨.hbm, 148, rfl⟩
abbrev main_call2_v83 : Ref sig .tc := ⟨.hbm, 149, rfl⟩
abbrev main_call2_c_21 : Ref sig .tc := ⟨.hbm, 150, rfl⟩
abbrev main_call2_v84 : Ref sig .tc := ⟨.hbm, 151, rfl⟩
abbrev main_call2_v85 : Ref sig .tc := ⟨.hbm, 152, rfl⟩
abbrev main_call2_v86 : Ref sig .tc := ⟨.hbm, 153, rfl⟩
abbrev main_call2_v87 : Ref sig .tc := ⟨.hbm, 154, rfl⟩
abbrev main_call2_v88 : Ref sig .tc := ⟨.hbm, 155, rfl⟩
abbrev main_call2_c_22 : Ref sig .tc := ⟨.hbm, 156, rfl⟩
abbrev main_call2_v89 : Ref sig .tc := ⟨.hbm, 157, rfl⟩
abbrev main_call2_v90 : Ref sig .tc := ⟨.hbm, 158, rfl⟩
abbrev main_call2_c_23 : Ref sig .tc := ⟨.hbm, 159, rfl⟩
abbrev main_call2_v91 : Ref sig .tc := ⟨.hbm, 160, rfl⟩
abbrev main_call2_v92 : Ref sig .tc := ⟨.hbm, 161, rfl⟩
abbrev main_call2_v93 : Ref sig .tc := ⟨.hbm, 162, rfl⟩
abbrev main_call2_v94 : Ref sig .tc := ⟨.hbm, 163, rfl⟩
abbrev main_call2_v95 : Ref sig .tc := ⟨.hbm, 164, rfl⟩
abbrev main_call2_c_24 : Ref sig .tc := ⟨.hbm, 165, rfl⟩
abbrev main_call2_v96 : Ref sig .tc := ⟨.hbm, 166, rfl⟩
abbrev main_call2_v97 : Ref sig .tc := ⟨.hbm, 167, rfl⟩
abbrev main_call2_c_25 : Ref sig .tc := ⟨.hbm, 168, rfl⟩
abbrev main_call2_v98 : Ref sig .tc := ⟨.hbm, 169, rfl⟩
abbrev main_call2_v99 : Ref sig .tc := ⟨.hbm, 170, rfl⟩
abbrev main_call2_v100 : Ref sig .tc := ⟨.hbm, 171, rfl⟩
abbrev main_call2_v101 : Ref sig .tc := ⟨.hbm, 172, rfl⟩
abbrev main_call2_v102 : Ref sig .tc := ⟨.hbm, 173, rfl⟩
abbrev main_call2_v103 : Ref sig .tc := ⟨.hbm, 174, rfl⟩
abbrev main_call2_v104 : Ref sig .tc := ⟨.hbm, 175, rfl⟩
abbrev main_call2_v105 : Ref sig .tc := ⟨.hbm, 176, rfl⟩
abbrev main_call2_c_26 : Ref sig .tc := ⟨.hbm, 177, rfl⟩
abbrev main_call2_v106 : Ref sig .tc := ⟨.hbm, 178, rfl⟩
abbrev main_call2_v107 : Ref sig .tc := ⟨.hbm, 179, rfl⟩
abbrev main_call2_v108 : Ref sig .tc := ⟨.hbm, 180, rfl⟩
abbrev main_call2_c_27 : Ref sig .tc := ⟨.hbm, 181, rfl⟩
abbrev main_call2_v109 : Ref sig .tc := ⟨.hbm, 182, rfl⟩
abbrev main_call2_v110 : Ref sig .tc := ⟨.hbm, 183, rfl⟩
abbrev main_call2_c_28 : Ref sig .tc := ⟨.hbm, 184, rfl⟩
abbrev main_call2_v111 : Ref sig .tc := ⟨.hbm, 185, rfl⟩
abbrev main_call2_v112 : Ref sig .tc := ⟨.hbm, 186, rfl⟩
abbrev main_call2_v113 : Ref sig .tc := ⟨.hbm, 187, rfl⟩
abbrev main_call2_v114 : Ref sig .tc := ⟨.hbm, 188, rfl⟩
abbrev main_call2_v115 : Ref sig .tc := ⟨.hbm, 189, rfl⟩
abbrev main_call2_c_29 : Ref sig .tc := ⟨.hbm, 190, rfl⟩
abbrev main_call2_v116 : Ref sig .tc := ⟨.hbm, 191, rfl⟩
abbrev main_call2_v117 : Ref sig .tc := ⟨.hbm, 192, rfl⟩
abbrev main_call2_c_30 : Ref sig .tc := ⟨.hbm, 193, rfl⟩
abbrev main_call2_v118 : Ref sig .tc := ⟨.hbm, 194, rfl⟩
abbrev main_call2_v119 : Ref sig .tc := ⟨.hbm, 195, rfl⟩
abbrev main_call2_v120 : Ref sig .tc := ⟨.hbm, 196, rfl⟩
abbrev main_call2_v121 : Ref sig .tc := ⟨.hbm, 197, rfl⟩
abbrev main_call2_v122 : Ref sig .tc := ⟨.hbm, 198, rfl⟩
abbrev main_call2_c_31 : Ref sig .tc := ⟨.hbm, 199, rfl⟩
abbrev main_call2_v123 : Ref sig .tc := ⟨.hbm, 200, rfl⟩
abbrev main_call2_v124 : Ref sig .tc := ⟨.hbm, 201, rfl⟩
abbrev main_call2_c_32 : Ref sig .tc := ⟨.hbm, 202, rfl⟩
abbrev main_call2_v125 : Ref sig .tc := ⟨.hbm, 203, rfl⟩
abbrev main_call2_v126 : Ref sig .tc := ⟨.hbm, 204, rfl⟩
abbrev main_call2_v127 : Ref sig .tc := ⟨.hbm, 205, rfl⟩
abbrev main_call2_v128 : Ref sig .tc := ⟨.hbm, 206, rfl⟩
abbrev main_call2_v129 : Ref sig .tc := ⟨.hbm, 207, rfl⟩
abbrev main_call2_c_33 : Ref sig .tc := ⟨.hbm, 208, rfl⟩
abbrev main_call2_v130 : Ref sig .tc := ⟨.hbm, 209, rfl⟩
abbrev main_call2_v131 : Ref sig .tc := ⟨.hbm, 210, rfl⟩
abbrev main_call2_c_34 : Ref sig .tc := ⟨.hbm, 211, rfl⟩
abbrev main_call2_v132 : Ref sig .tc := ⟨.hbm, 212, rfl⟩
abbrev main_call2_v133 : Ref sig .tc := ⟨.hbm, 213, rfl⟩
abbrev main_call2_v134 : Ref sig .tc := ⟨.hbm, 214, rfl⟩
abbrev main_call2_v135 : Ref sig .tc := ⟨.hbm, 215, rfl⟩
abbrev main_call2_v136 : Ref sig .tc := ⟨.hbm, 216, rfl⟩
abbrev main_call2_v137 : Ref sig .tc := ⟨.hbm, 217, rfl⟩
abbrev main_call2_v138 : Ref sig .tc := ⟨.hbm, 218, rfl⟩
abbrev main_call2_v139 : Ref sig .tc := ⟨.hbm, 219, rfl⟩
abbrev main_call2_c_35 : Ref sig .tc := ⟨.hbm, 220, rfl⟩
abbrev main_call2_v140 : Ref sig .tc := ⟨.hbm, 221, rfl⟩
abbrev main_call2_v141 : Ref sig .tc := ⟨.hbm, 222, rfl⟩
abbrev main_call2_v142 : Ref sig .tc := ⟨.hbm, 223, rfl⟩
abbrev main_call2_c_36 : Ref sig .tc := ⟨.hbm, 224, rfl⟩
abbrev main_call2_v143 : Ref sig .tc := ⟨.hbm, 225, rfl⟩
abbrev main_call2_v144 : Ref sig .tc := ⟨.hbm, 226, rfl⟩
abbrev main_call2_c_37 : Ref sig .tc := ⟨.hbm, 227, rfl⟩
abbrev main_call2_v145 : Ref sig .tc := ⟨.hbm, 228, rfl⟩
abbrev main_call2_v146 : Ref sig .tc := ⟨.hbm, 229, rfl⟩
abbrev main_call2_v147 : Ref sig .tc := ⟨.hbm, 230, rfl⟩
abbrev main_call2_v148 : Ref sig .tc := ⟨.hbm, 231, rfl⟩
abbrev main_call2_v149 : Ref sig .tc := ⟨.hbm, 232, rfl⟩
abbrev main_call2_c_38 : Ref sig .tc := ⟨.hbm, 233, rfl⟩
abbrev main_call2_v150 : Ref sig .tc := ⟨.hbm, 234, rfl⟩
abbrev main_call2_v151 : Ref sig .tc := ⟨.hbm, 235, rfl⟩
abbrev main_call2_c_39 : Ref sig .tc := ⟨.hbm, 236, rfl⟩
abbrev main_call2_v152 : Ref sig .tc := ⟨.hbm, 237, rfl⟩
abbrev main_call2_v153 : Ref sig .tc := ⟨.hbm, 238, rfl⟩
abbrev main_call2_v154 : Ref sig .tc := ⟨.hbm, 239, rfl⟩
abbrev main_call2_v155 : Ref sig .tc := ⟨.hbm, 240, rfl⟩
abbrev main_call2_v156 : Ref sig .tc := ⟨.hbm, 241, rfl⟩
abbrev main_call2_c_40 : Ref sig .tc := ⟨.hbm, 242, rfl⟩
abbrev main_call2_v157 : Ref sig .tc := ⟨.hbm, 243, rfl⟩
abbrev main_call2_v158 : Ref sig .tc := ⟨.hbm, 244, rfl⟩
abbrev main_call2_c_41 : Ref sig .tc := ⟨.hbm, 245, rfl⟩
abbrev main_call2_v159 : Ref sig .tc := ⟨.hbm, 246, rfl⟩
abbrev main_call2_v160 : Ref sig .tc := ⟨.hbm, 247, rfl⟩
abbrev main_call2_v161 : Ref sig .tc := ⟨.hbm, 248, rfl⟩
abbrev main_call2_v162 : Ref sig .tc := ⟨.hbm, 249, rfl⟩
abbrev main_call2_v163 : Ref sig .tc := ⟨.hbm, 250, rfl⟩
abbrev main_call2_c_42 : Ref sig .tc := ⟨.hbm, 251, rfl⟩
abbrev main_call2_v164 : Ref sig .tc := ⟨.hbm, 252, rfl⟩
abbrev main_call2_v165 : Ref sig .tc := ⟨.hbm, 253, rfl⟩
abbrev main_call2_c_43 : Ref sig .tc := ⟨.hbm, 254, rfl⟩
abbrev main_call2_v166 : Ref sig .tc := ⟨.hbm, 255, rfl⟩
abbrev main_call2_v167 : Ref sig .tc := ⟨.hbm, 256, rfl⟩
abbrev main_call2_v168 : Ref sig .tc := ⟨.hbm, 257, rfl⟩
abbrev main_call2_v169 : Ref sig .tc := ⟨.hbm, 258, rfl⟩
abbrev main_call2_v170 : Ref sig .tc := ⟨.hbm, 259, rfl⟩
abbrev main_v30_0 : Ref sig .tc := ⟨.hbm, 260, rfl⟩
abbrev main_call2_v172 : Ref sig .tc := ⟨.hbm, 261, rfl⟩
abbrev main_call2_v173 : Ref sig .tc := ⟨.hbm, 262, rfl⟩
abbrev main_call2_c_44 : Ref sig .tc := ⟨.hbm, 263, rfl⟩
abbrev main_call2_v174 : Ref sig .tc := ⟨.hbm, 264, rfl⟩
abbrev main_v30_1 : Ref sig .tc := ⟨.hbm, 265, rfl⟩
abbrev main_v31 : Ref sig .tc := ⟨.hbm, 266, rfl⟩
abbrev main_c_6 : Ref sig .tc := ⟨.hbm, 267, rfl⟩
abbrev main_v32 : Ref sig .tc := ⟨.hbm, 268, rfl⟩
abbrev main_v33 : Ref sig .tc := ⟨.hbm, 269, rfl⟩
abbrev main_c_7 : Ref sig .tc := ⟨.hbm, 270, rfl⟩
abbrev main_v34 : Ref sig .tc := ⟨.hbm, 271, rfl⟩
abbrev main_v35 : Ref sig .tc := ⟨.hbm, 272, rfl⟩
abbrev main_v36 : Ref sig .tc := ⟨.hbm, 273, rfl⟩
abbrev main_cst_8 : Ref sig .tc := ⟨.hbm, 274, rfl⟩
abbrev main_v37 : Ref sig .tc := ⟨.hbm, 275, rfl⟩
abbrev main_v38 : Ref sig .tc := ⟨.hbm, 276, rfl⟩
abbrev main_cst_9 : Ref sig .tc := ⟨.hbm, 277, rfl⟩
abbrev main_v39 : Ref sig .tc := ⟨.hbm, 278, rfl⟩
abbrev main_v40 : Ref sig .tc := ⟨.hbm, 279, rfl⟩
abbrev main_cst_10 : Ref sig .tc := ⟨.hbm, 280, rfl⟩
abbrev main_v41 : Ref sig .tc := ⟨.hbm, 281, rfl⟩
abbrev main_v42 : Ref sig .tc := ⟨.hbm, 282, rfl⟩
abbrev main_cst_11 : Ref sig .tc := ⟨.hbm, 283, rfl⟩
abbrev main_v43 : Ref sig .tc := ⟨.hbm, 284, rfl⟩
abbrev main_v44 : Ref sig .tc := ⟨.hbm, 285, rfl⟩
abbrev main_v45 : Ref sig .tc := ⟨.hbm, 286, rfl⟩
abbrev main_v46 : Ref sig .tc := ⟨.hbm, 287, rfl⟩
abbrev main_v47 : Ref sig .tc := ⟨.hbm, 288, rfl⟩
abbrev main_v48 : Ref sig .tc := ⟨.hbm, 289, rfl⟩
abbrev main_v49 : Ref sig .tc := ⟨.hbm, 290, rfl⟩
abbrev main_call3_v0 : Ref sig .tc := ⟨.hbm, 291, rfl⟩
abbrev main_call3_cst : Ref sig .tc := ⟨.hbm, 292, rfl⟩
abbrev main_call3_c : Ref sig .tc := ⟨.hbm, 293, rfl⟩
abbrev main_call3_v1_0 : Ref sig .tc := ⟨.hbm, 294, rfl⟩
abbrev main_v50 : Ref sig .tc := ⟨.hbm, 295, rfl⟩
abbrev main_cst_12 : Ref sig .tc := ⟨.hbm, 296, rfl⟩
abbrev main_v51 : Ref sig .tc := ⟨.hbm, 297, rfl⟩
abbrev main_v52 : Ref sig .tc := ⟨.hbm, 298, rfl⟩
abbrev main_v53 : Ref sig .tc := ⟨.hbm, 299, rfl⟩

abbrev nD : Nat := 1
abbrev τ : Topo := Topo.v7x

variable {F : FTy → Type} [FloatOps F]
-- ==== Proof.KernelFrame.lean ====
/-
  The frame of the kernel as printed, at any float values: every run of @main terminates, faults nowhere, leaves the
  two argument arrays as they were and ends with every semaphore counter at zero. Nothing is said here of what the
  kernel computes: the output window is forgotten and the two scratch buffers are held at some contents throughout.
  The blocks of the logits are clipped at the array's end; the frame needs no statement about the words past it.
-/
module

public import proofs.«01_k».proof.Proof.Gen.Kernel.Frame
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

/-- The body's triple for any continuation: from the three input buffers at given contents and the output buffer and
    both scratch buffers at some contents, the kernel's body runs to its return, handing back the inputs as they were
    and the other three at some contents. -/
theorem body_run (c : Dev nD) (i : grid0.Coords)
    (arg1 : Memref sig .tc .vmem S64x1 .f32) (harg1 : arg1.IsWhole)
    (arg2 : Memref sig .tc .vmem S64x1 .i32) (harg2 : arg2.IsWhole)
    (arg3 : Memref sig .tc .vmem S64x8192 .f32) (harg3 : arg3.IsWhole)
    (arg4 : Memref sig .tc .vmem S64x1 .i32) (harg4 : arg4.IsWhole)
    (arg5 : Memref sig .tc .vmem S64x512 .f32) (harg5 : arg5.IsWhole)
    (arg6 : Memref sig .tc .vmem S64x512 .i32) (harg6 : arg6.IsWhole)
    (X1 : S64x1.Idx → Elt F .f32) (X2 : S64x1.Idx → Elt F .i32) (X3 : S64x8192.Idx → Elt F .f32)
    (K : PUnit → sProp 𝕄) :
    iprop(owns (c : Thread nD τ) arg1 fullShare X1 ∗ owns (c : Thread nD τ) arg2 fullShare X2
        ∗ owns (c : Thread nD τ) arg3 fullShare X3 ∗ (∃ X, owns (c : Thread nD τ) arg4 fullShare X)
        ∗ (∃ X, owns (c : Thread nD τ) arg5 fullShare X) ∗ (∃ X, owns (c : Thread nD τ) arg6 fullShare X)
        ∗ (iprop(owns (c : Thread nD τ) arg1 fullShare X1 ∗ owns (c : Thread nD τ) arg2 fullShare X2
            ∗ owns (c : Thread nD τ) arg3 fullShare X3 ∗ (∃ X, owns (c : Thread nD τ) arg4 fullShare X)
            ∗ (∃ X, owns (c : Thread nD τ) arg5 fullShare X) ∗ (∃ X, owns (c : Thread nD τ) arg6 fullShare X)) -∗ K ⟨⟩))
      ⊢ wp frame (wpE (defs₀ (F := F)) Variants.none c none) Set.univ
          (cc0__sampler_kernel i arg1 harg1 arg2 harg2 arg3 harg3 arg4 harg4 arg5 harg5 arg6 harg6) K := by
  simp only [cc0__sampler_kernel_eq_skeleton]; unfold cc0__sampler_kernel_skel
  unfold owns
  by_cases hc : k0_cond1 i = 1#1
  all_goals
    iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
    sl_exec (disch := sl_exact hc)
    sl_step
    iapply Hk
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-! ## The proof data and the body obligation -/

/-- The output window is forgotten: nothing here reads what the kernel leaves in it. -/
def forgets : Fin 4 → Bool := fun | 0 => false | 1 => false | 2 => false | 3 => true

/-- The proof data on core `c`: the arrays as the region finds them; the two whole input windows keep their block, the
    logits' window its block on the part inside the array; the output is unnamed; the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, _⟩ => fun _ => Classical.arbitrary _
  Φ _ := Pipeline.ΦA spec0 c
  q _ := fullShare
  owed _ := 0

/-- The body finds the temperatures' block in window 0's buffer. -/
theorem before_0 (c : Dev nD) (t : Fin cfg0.N) (d) : (dats m 0 c).before 0 t d = iblk m c 0 t :=
  before0_0_of m (dats m 0 c) rfl (fun _ => rfl) t d
/-- The body finds the row offsets' block in window 1's buffer. -/
theorem before_1 (c : Dev nD) (t : Fin cfg0.N) (d) : (dats m 0 c).before 1 t d = iblk m c 1 t :=
  before0_1_of m (dats m 0 c) rfl (fun _ => rfl) t d
/-- The body finds in window 2's buffer the logits' block just fetched, and anything past the array's end. -/
theorem before_2 (c : Dev nD) (t : Fin cfg0.N) (d) :
    (dats m 0 c).before 2 t d = win0_2.fill (grid0.coords t) d (iblk m c 2 t) := by
  unfold Dat.before; rw [if_pos (fetch0_2 t)]; rfl

/-- The invariant, buffer by buffer: both scratch buffers at some contents and the generator register at some state. -/
theorem phi_eq (c : Dev nD) :
    (Pipeline.ΦA spec0 c : sProp 𝕄)
      = iprop(((∃ X, owns (c : Thread nD τ) (Memref.whole cc0_scratch0) fullShare X)
          ∗ (∃ X, owns (c : Thread nD τ) (Memref.whole cc0_scratch1) fullShare X)) ∗ ∃ r, prngReg c r) := by
  unfold Pipeline.ΦA; rw [scopedRest0_eq]; simp only [owns_whole]; try rfl

/-- The body table's row at the point is the body as the generated points spell it. -/
theorem defs₀_row (t : Fin cfg0.N) : defs₀ (F := F) .tc cfg0.body (cfg0.bodyArgs t (cfg0.slots t)) = bodyAt0 t := by
  unfold defs₀; rw [Defs.onTc_tc]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))
/-- What the body returns with at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (∃ d, owns (c : Thread nD τ) (st0_2 t) fullShare (win0_2.fill (grid0.coords t) d (win0_2.cut (grid0.coords t)
        (win0_2.fill (grid0.coords t) (fun _ => Classical.arbitrary _) (iblk m c 2 t)))))
    ∗ (∃ X, owns (c : Thread nD τ) (st0_3 t) fullShare X))

/-- The body at the point, between its two ends. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, phi_eq]
  iintro ⟨⟨⟨H5, H6⟩, Hg⟩, HO, ⟨%d0, H0⟩, ⟨%d1, H1⟩, ⟨%d2, H2⟩, H3⟩
  rw [before_0, before_1, before_2]
  iapply (body_run c (grid0.coords t) _ _ _ _ _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6 Hg]
  · isplitl [H5 H6]
    · isplitl [H5]; · iexact H5
      iexact H6
    iexact Hg
  isplitl [HO]; · iexact HO
  isplitl [H0]; · iexact H0
  isplitl [H1]; · iexact H1
  isplitl [H2]
  · iexists d2
    rw [win0_2.cut_fill]; iexact H2
  iexact H3

/-- The library's body obligation with the output forgotten. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

/-! ## The run -/

-- the launch theorem's implicit arguments are found by unifying its conclusion with this statement
set_option backward.isDefEq.respectTransparency.types false in
/-- Every run of @main terminates; the argument arrays end as they were and every counter at zero. -/
theorem run_main :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  Pipeline.θ_run_frame_around_T_forget (Q' := _) cfgs (dats m) (0 : Fin 1) launch0 defs₀ Variants.none forgets {main_v6} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := by
      intro ops hops op hop b hb
      obtain rfl := List.mem_singleton.mp hops
      obtain rfl := List.mem_singleton.mp hop
      rw [StableHlo.reshape_writes, Finset.mem_singleton] at hb
      rw [Finset.mem_singleton]
      exact Proc.devRef_injective _ hb)
    (hmain := hmain m Variants.none) (hA := fun _ _ => rfl) (hΦ := fun _ _ => rfl)
    (hQ' := fun r h => ⟨fun c => ⟨(h.1.arr_in c 2 rfl).trans (V_main_arg0 m c),
      ((h.1 c).2 main_arg1 (Finset.mem_sdiff.mpr ⟨Pipeline.mem_restRefs_of main_arg1 (by decide) (by decide), by decide⟩)).trans
        (V_main_arg1 m c)⟩, h.2⟩)

end Cert.Kernel.Hand

end
-- ==== Proof.Spec.lean ====
module

public import Idealize.ShloMosaic.PureOps.Ideal.Laws

@[expose] public section

/-!
# The random word of a position

Both programs draw one 32-bit word per logit: Threefry-2x32 with twenty rounds, under the key `(0, 42)`, of the
position's row-major number as a counter, the two output words combined by exclusive or.  This module states that word
once, over bit vectors.
-/

namespace Cert.Spec

/-- `x` rotated left by `r` bits. -/
def rotate (r : ℕ) (x : BitVec 32) : BitVec 32 := x <<< r ||| x >>> (32 - r)

/-- One round: the first word gains the second, the second is rotated and mixed with the new first. -/
def mix (r : ℕ) (p : BitVec 32 × BitVec 32) : BitVec 32 × BitVec 32 :=
  (p.1 + p.2, (p.1 + p.2) ^^^ rotate r p.2)

/-- Four rounds, then the injection of two key words and the group's number. -/
def group (r₀ r₁ r₂ r₃ : ℕ) (ka kb inc : BitVec 32) (p : BitVec 32 × BitVec 32) : BitVec 32 × BitVec 32 :=
  let q := mix r₃ (mix r₂ (mix r₁ (mix r₀ p)))
  (q.1 + ka, q.2 + kb + inc)

/-- The twenty rounds under the key `(k₀, k₁)`, whose third schedule word is `k₂`, from the words after the first
    injection. -/
def rounds (k₀ k₁ k₂ : BitVec 32) (p : BitVec 32 × BitVec 32) : BitVec 32 × BitVec 32 :=
  group 13 15 26 6 k₂ k₀ 5#32 (group 17 29 16 24 k₁ k₂ 4#32 (group 13 15 26 6 k₀ k₁ 3#32
    (group 17 29 16 24 k₂ k₀ 2#32 (group 13 15 26 6 k₁ k₂ 1#32 p))))

/-- The random word of the position numbered `n`. -/
def word (n : BitVec 32) : BitVec 32 :=
  let q := rounds 0#32 42#32 466689008#32 (0#32, n + 42#32)
  q.1 ^^^ q.2

/-- A group is its four rounds, one after the other, and the injection. -/
theorem group_of {r₀ r₁ r₂ r₃ : ℕ} {ka kb inc : BitVec 32} {p p₁ p₂ p₃ p₄ : BitVec 32 × BitVec 32}
    (h₁ : p₁ = mix r₀ p) (h₂ : p₂ = mix r₁ p₁) (h₃ : p₃ = mix r₂ p₂) (h₄ : p₄ = mix r₃ p₃) :
    group r₀ r₁ r₂ r₃ ka kb inc p = (p₄.1 + ka, p₄.2 + kb + inc) := by
  subst h₁ h₂ h₃ h₄; rfl

noncomputable section

open Idealize.ShloMosaic

/-- The uniform variate of a random word: its top 23 bits as the fraction of a float in `[1, 2)`, less one, moved up by
    the smallest normal float and not below it. -/
def uniform (w : BitVec 32) : EReal :=
  max (Ideal.ofBits .f32 0x00800000#32)
    (Ideal.ofBits .f32 (w >>> 9 ||| 0x3F800000#32) - Ideal.ofBits .f32 0x3F800000#32 + Ideal.ofBits .f32 0x00800000#32)

/-- The Gumbel variate of a random word. -/
def gumbel (w : BitVec 32) : EReal := -Ideal.log (-Ideal.log (uniform w))

/-- What a logit `x` counts for at temperature `t` under the random word `w`: itself when `t` is zero, else its quotient
    by `t` plus the Gumbel variate. -/
def score (t x : EReal) (w : BitVec 32) : EReal :=
  if t = 0 then x else gumbel w + Ideal.div x t

end

end Cert.Spec
-- ==== Proof.Lane.lean ====
module

public import proofs.«01_k».proof.Proof.Gen.KernelIdeal.Skeleton
public import proofs.«01_k».proof.Proof.Spec
public import Idealize.ShloMosaic.Lib.ValueIdx
public import Idealize.ShloMosaic.Lib.Pipeline.Value

@[expose] public section

set_option maxRecDepth 100000

/-!
# One lane of one trip of the kernel's loop

A trip of the loop draws a random word for each of its `64 × 512` lanes and scores the lane's logit.  Here both are
read at one lane: the word is the specification's word of the lane's row-major number, the score its score.
-/

noncomputable section

namespace Cert.KernelIdeal.Hand

open Cert.KernelIdeal Cert.KernelIdeal.Gen
open Idealize.ShloMosaic Idealize.ShloMosaic.ValueIdx

section Words

/-- The first group of rounds: what the loop body's first part hands on. -/
theorem group_0 (v12 : IVec S64x1 32) (v13 c0 c1 : BitVec 32) (k : Fin k0_t1_loop.trips) (j : S64x512.Idx) :
    Spec.group 13 15 26 6 42#32 466689008#32 1#32 (0#32, k0_pay3 v12 v13 c0 c1 k j)
      = (k0_pay12 v12 v13 c0 c1 k j, k0_pay13 (k0_pay11 v12 v13 c0 c1 k) 466689008#32 j) :=
  (Spec.group_of (p₁ := (k0_pay4 v12 v13 c0 c1 k j, k0_pay5 v12 v13 c0 c1 k j))
    (p₂ := (k0_pay6 v12 v13 c0 c1 k j, k0_pay7 v12 v13 c0 c1 k j))
    (p₃ := (k0_pay8 v12 v13 c0 c1 k j, k0_pay9 v12 v13 c0 c1 k j))
    (p₄ := (k0_pay10 v12 v13 c0 c1 k j, k0_pay11 v12 v13 c0 c1 k j)) rfl rfl rfl rfl).trans rfl

/-- The second group. -/
theorem group_1 (v74 v76 : IVec S64x512 32) (c : BitVec 32) (j : S64x512.Idx) :
    Spec.group 17 29 16 24 466689008#32 0#32 2#32 (v76 j, k0_pay13 v74 c j)
      = (k0_pay20 v74 v76 c j + 466689008#32, k0_pay21 v74 v76 c j) :=
  (Spec.group_of (p₁ := (k0_pay14 v74 v76 c j, k0_pay15 v74 v76 c j))
    (p₂ := (k0_pay16 v74 v76 c j, k0_pay17 v74 v76 c j))
    (p₃ := (k0_pay18 v74 v76 c j, k0_pay19 v74 v76 c j)) rfl rfl rfl rfl).trans rfl

/-- The third group, which ends in the body's third part. -/
theorem group_2 (v74 v76 : IVec S64x512 32) (c : BitVec 32) (j : S64x512.Idx) :
    Spec.group 13 15 26 6 0#32 42#32 3#32 (k0_pay20 v74 v76 c j + 466689008#32, k0_pay21 v74 v76 c j)
      = (k0_pay28 (k0_pay23 v74 v76 c) (k0_pay24 v74 v76 c) j + 0#32,
          k0_pay29 (k0_pay23 v74 v76 c) (k0_pay24 v74 v76 c) j) := by
  have h₁ : (k0_pay22 v74 v76 c j, k0_pay23 v74 v76 c j)
    = Spec.mix 13 (k0_pay20 v74 v76 c j + 466689008#32, k0_pay21 v74 v76 c j) := rfl
  have h₂ : (k0_pay24 v74 v76 c j, k0_pay25 (k0_pay23 v74 v76 c) (k0_pay24 v74 v76 c) j)
    = Spec.mix 15 (k0_pay22 v74 v76 c j, k0_pay23 v74 v76 c j) := rfl
  generalize k0_pay23 v74 v76 c = v121 at *
  generalize k0_pay24 v74 v76 c = v122 at *
  have h₃ : (k0_pay26 v121 v122 j, k0_pay27 v121 v122 j) = Spec.mix 26 (v122 j, k0_pay25 v121 v122 j) := rfl
  have h₄ : (k0_pay28 v121 v122 j, k0_pay28 v121 v122 j ^^^ Spec.rotate 6 (k0_pay27 v121 v122 j))
    = Spec.mix 6 (k0_pay26 v121 v122 j, k0_pay27 v121 v122 j) := rfl
  rw [Spec.group_of h₁ h₂ h₃ h₄]
  rfl

/-- The fourth group, which ends in the body's fourth part. -/
theorem group_3 (v121 v122 : IVec S64x512 32) (j : S64x512.Idx) :
    Spec.group 17 29 16 24 42#32 466689008#32 4#32 (k0_pay28 v121 v122 j + 0#32, k0_pay29 v121 v122 j)
      = (k0_pay38 (k0_pay34 v121 v122) (k0_pay35 v121 v122) (k0_pay36 v121 v122) j + 42#32,
          k0_pay39 (k0_pay34 v121 v122) (k0_pay35 v121 v122) (k0_pay36 v121 v122) j) :=
  (Spec.group_of (p₁ := (k0_pay30 v121 v122 j, k0_pay31 v121 v122 j))
    (p₂ := (k0_pay32 v121 v122 j, k0_pay33 v121 v122 j))
    (p₃ := (k0_pay34 v121 v122 j, k0_pay37 (k0_pay34 v121 v122) (k0_pay35 v121 v122) (k0_pay36 v121 v122) j))
    rfl rfl rfl rfl).trans rfl

/-- The last group: the body's fourth part, its second word still without the last injection. -/
theorem group_4 (v163 v165 v167 : IVec S64x512 32) (j : S64x512.Idx) :
    Spec.group 13 15 26 6 466689008#32 0#32 5#32 (k0_pay38 v163 v165 v167 j + 42#32, k0_pay39 v163 v165 v167 j)
      = (k0_pay48 v163 v165 v167 j, k0_pay47 v163 v165 v167 j + 0#32 + 5#32) := by
  have h₁ : (k0_pay40 v163 v165 v167 j, k0_pay41 v163 v165 v167 j)
    = Spec.mix 13 (k0_pay38 v163 v165 v167 j + 42#32, k0_pay39 v163 v165 v167 j) := rfl
  have h₂ : (k0_pay42 v163 v165 v167 j, k0_pay43 v163 v165 v167 j)
    = Spec.mix 15 (k0_pay40 v163 v165 v167 j, k0_pay41 v163 v165 v167 j) := rfl
  have h₃ : (k0_pay44 v163 v165 v167 j, k0_pay45 v163 v165 v167 j)
    = Spec.mix 26 (k0_pay42 v163 v165 v167 j, k0_pay43 v163 v165 v167 j) := rfl
  have h₄ : (k0_pay46 v163 v165 v167 j, k0_pay47 v163 v165 v167 j)
    = Spec.mix 6 (k0_pay44 v163 v165 v167 j, k0_pay45 v163 v165 v167 j) := rfl
  rw [Spec.group_of h₁ h₂ h₃ h₄]
  rfl

/-- The first two words of the body's fourth part, from the row offsets, the block's base and the trip. -/
def words (v12 : IVec S64x1 32) (v13 : BitVec 32) (k : Fin k0_t1_loop.trips) : IVec S64x512 32 × IVec S64x512 32 :=
  let v74 := k0_pay11 v12 v13 0#32 1#32 k
  let v76 := k0_pay12 v12 v13 0#32 1#32 k
  let v121 := k0_pay23 v74 v76 466689008#32
  let v122 := k0_pay24 v74 v76 466689008#32
  let v163 := k0_pay34 v121 v122
  let v165 := k0_pay35 v121 v122
  let v167 := k0_pay36 v121 v122
  (k0_pay47 v163 v165 v167, k0_pay48 v163 v165 v167)

/-- A lane's two words, combined, are the random word of the lane's number. -/
theorem words_word (v12 : IVec S64x1 32) (v13 : BitVec 32) (k : Fin k0_t1_loop.trips) (j : S64x512.Idx) (n : BitVec 32)
    (hn : k0_pay3 v12 v13 0#32 1#32 k j = n + 42#32) :
    (words v12 v13 k).2 j ^^^ ((words v12 v13 k).1 j + 0#32 + 5#32) = Spec.word n := by
  unfold Spec.word Spec.rounds
  rw [← hn, group_0, group_1, group_2, group_3, group_4]
  rfl

end Words

/-- The words of the constants zero, one and minus infinity. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee]
  norm_cast
  norm_num
theorem ofBits_bot : Ideal.ofBits .f32 0xFF800000#32 = ⊥ := by
  simp [Ideal.ofBits, Ideal.ieee]

/-- A lane's score: off the vocabulary's end minus infinity, else the specification's. -/
theorem score_lane (t : Vec Ideal S64x1 .f32) (x : Vec Ideal S64x512 .f32) (lane w w' : IVec S64x512 32) (j : S64x512.Idx) :
    k0_pay52 t x lane w w' 0#32 j
      = if (lane j).slt 1000000#32 then
          Spec.score (t (ix2 (j 0) 0)) (x j) (w' j ^^^ (w j + 0#32 + 5#32))
        else ⊥ := by
  have row (v : S64x1.Idx → EReal) : broadcastTo S64x512 v broadcasts_S64x1_S64x512 j = v (ix2 (j 0) 0) :=
    broadcastTo_apply v _ j _ (fun a => by fin_cases a <;> rfl)
  have noise : subf (broadcast S64x512 (FloatOps.ofBits (F := Ideal) FTy.f32 0#32))
            (log
              (subf (broadcast S64x512 (FloatOps.ofBits FTy.f32 0#32))
                (log
                  (maximumf (broadcast S64x512 (FloatOps.ofBits FTy.f32 8388608#32))
                    (addf
                      (subf
                        (bitcastToFloat FTy.f32
                          (ori
                            (shrui (xori w' (addi (addi w (broadcast S64x512 0#32)) (broadcast S64x512 5#32)))
                              (broadcast S64x512 9#32))
                            (broadcast S64x512 1065353216#32)))
                        (broadcast S64x512 (FloatOps.ofBits FTy.f32 1065353216#32)))
                      (broadcast S64x512 (FloatOps.ofBits FTy.f32 8388608#32))))))) j
      = Spec.gumbel (w' j ^^^ (w j + 0#32 + 5#32)) := by
    show Ideal.ofBits .f32 0#32 - Ideal.log (Ideal.ofBits .f32 0#32
      - Ideal.log (Spec.uniform (w' j ^^^ (w j + 0#32 + 5#32)))) = _
    rw [ofBits_zero, zero_sub, zero_sub]; rfl
  unfold k0_pay52
  simp only [shapeCast_self, select_apply, addf_apply, mulf_apply, divf_apply, row, broadcast_apply, cmpf_apply]
  rw [noise]
  simp only [Ideal.ofBits_def, Ideal.cmpf_def, ofBits_zero, ofBits_one, ofBits_bot]
  have hlt : cmpi CmpIPredicate.slt lane (broadcast S64x512 1000000#32) j = BitVec.ofBool ((lane j).slt 1000000#32) := rfl
  rw [hlt]
  unfold Spec.score
  by_cases hl : (lane j).slt 1000000#32 = true
  · rw [if_pos hl, hl]
    by_cases ht : t (ix2 (j 0) 0) = 0
    · rw [if_pos ht]
      simp [Scalar.select, Ideal.cmp, ht, Ideal.div]
    · rw [if_neg ht]
      simp [Scalar.select, Ideal.cmp, ht]
  · rw [if_neg hl, Bool.eq_false_iff.mpr hl]
    rfl

end Cert.KernelIdeal.Hand

end
-- ==== Proof.Body.lean ====
module

public import proofs.«01_k».proof.Proof.Gen.KernelIdeal.Frame
public import proofs.«01_k».proof.Proof.Gen.KernelIdeal.Loops
public import proofs.«01_k».proof.Proof.Lane
public import Idealize.ShloMosaic.Lib.Pipeline.ValueKit

@[expose] public section

/-!
# The kernel's body, run once

At any float values: what one grid point leaves in the scratch and, at the last point, in the output.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

/-! ## The loop -/

/-- The running maxima and the places they were found at, one of each per lane. -/
abbrev Carry (F : FTy → Type) [FloatOps F] : Type := FVec F S64x512 .f32 × IVec S64x512 32

/-- The first lane a grid point scores. -/
abbrev base (i : grid0.Coords) : BitVec 32 := Scalar.muli (BitVec.ofNat 32 (i 0).val) 8192#32

/-- The logits one trip reads from its point's block. -/
def part (X3 : S64x8192.Idx → Elt F .f32) (k : Fin k0_t1_loop.trips) : Vec F S64x512 .f32 :=
  fun y => X3 ((Rect.unit (s := S64x8192) (k0_off1 k) S64x512.size (k0_off1_inb k)).emb y)

/-- One trip. -/
def trip (i : grid0.Coords) (X1 : S64x1.Idx → Elt F .f32) (X2 : S64x1.Idx → Elt F .i32) (X3 : S64x8192.Idx → Elt F .f32)
    (k : Fin k0_t1_loop.trips) (acc : Carry F) : Carry F :=
  (k0_pay54 X1 acc.1 (part X3 k) (k0_pay2 (base i) 0#32 1#32 k) (words (k0_pay49 X2) (base i) k).1
      (words (k0_pay49 X2) (base i) k).2 0#32,
    k0_pay55 X1 acc.1 acc.2 (part X3 k) (k0_pay2 (base i) 0#32 1#32 k) (words (k0_pay49 X2) (base i) k).1
      (words (k0_pay49 X2) (base i) k).2 0#32)

/-- The carry before each trip. -/
def carry (i : grid0.Coords) (X1 : S64x1.Idx → Elt F .f32) (X2 : S64x1.Idx → Elt F .i32) (X3 : S64x8192.Idx → Elt F .f32)
    (init : Carry F) : ℕ → Carry F
  | 0 => init
  | k + 1 => if h : k < k0_t1_loop.trips then trip i X1 X2 X3 ⟨k, h⟩ (carry i X1 X2 X3 init k) else carry i X1 X2 X3 init k

/-- A load of everything reads everything. -/
theorem readAt_all {e : EltTy} {κ : Kind} {sp : Space} {S : Shape} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- A store of everything leaves what it stored. -/
theorem read_store_all {e : EltTy} {κ : Kind} {sp : Space} {S : Shape} (v : View sig κ sp S e) {off : Fin S.rank → ℕ} (h : off = fun _ => 0)
    (inb : ∀ a, off a + S.size a ≤ S.size a) (f : v.ty.Contents (Elt F)) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- The offsets of a whole buffer's load. -/
theorem zeros : (![0, 0] : Fin 2 → ℕ) = fun _ => 0 := by decide

/-- The loop makes sixteen trips. -/
theorem trips_eq : k0_t1_loop.trips = 16 := by decide +kernel

/-- The generated loop state is the carry. -/
theorem st_eq (c : Dev nD) (i : grid0.Coords)
    (arg1 : Memref sig .tc .vmem S64x1 .f32) (harg1 : arg1.IsWhole)
    (arg2 : Memref sig .tc .vmem S64x1 .i32) (harg2 : arg2.IsWhole)
    (arg3 : Memref sig .tc .vmem S64x8192 .f32) (harg3 : arg3.IsWhole)
    (arg4 : Memref sig .tc .vmem S64x1 .i32) (harg4 : arg4.IsWhole)
    (arg5 : Memref sig .tc .vmem S64x512 .f32) (harg5 : arg5.IsWhole)
    (arg6 : Memref sig .tc .vmem S64x512 .i32) (harg6 : arg6.IsWhole)
    (X1 : S64x1.Idx → Elt F .f32) (X2 : S64x1.Idx → Elt F .i32) (f3 : arg3.view.ty.Contents (Elt F)) (init : Carry F) :
    ∀ n ≤ k0_t1_loop.trips, st_k0_t1 Variants.none c none i arg1 harg1 arg2 harg2 arg3 harg3 arg4 harg4 arg5 harg5 arg6 harg6
      X1 X2 (base i) f3 init n = carry i X1 X2 (arg3.view.read (Elt F) f3) init n
  | 0, _ => rfl
  | n + 1, h => by
    rw [st_k0_t1_succ _ _ _ _ _ _ _ _ _ _ _ _ _ _ _ _ _ _ _ _ _ ⟨n, h⟩]
    rw [st_eq c i arg1 harg1 arg2 harg2 arg3 harg3 arg4 harg4 arg5 harg5 arg6 harg6 X1 X2 f3 init n (by omega)]
    rw [show carry i X1 X2 (arg3.view.read (Elt F) f3) init (n + 1)
      = trip i X1 X2 (arg3.view.read (Elt F) f3) ⟨n, h⟩ (carry i X1 X2 (arg3.view.read (Elt F) f3) init n) from dif_pos h]
    unfold tripR_k0_t1 trip_k0_t1
    dsimp only
    rfl

/-- The body at a grid point: the carry after its sixteen trips goes to the scratch, and at the last point its row-wise
    choice goes to the output. -/
theorem body_run (c : Dev nD) (i : grid0.Coords)
    (arg1 : Memref sig .tc .vmem S64x1 .f32) (harg1 : arg1.IsWhole)
    (arg2 : Memref sig .tc .vmem S64x1 .i32) (harg2 : arg2.IsWhole)
    (arg3 : Memref sig .tc .vmem S64x8192 .f32) (harg3 : arg3.IsWhole)
    (arg4 : Memref sig .tc .vmem S64x1 .i32) (harg4 : arg4.IsWhole)
    (arg5 : Memref sig .tc .vmem S64x512 .f32) (harg5 : arg5.IsWhole)
    (arg6 : Memref sig .tc .vmem S64x512 .i32) (harg6 : arg6.IsWhole)
    (X1 : S64x1.Idx → Elt F .f32) (X2 : S64x1.Idx → Elt F .i32) (X3 : S64x8192.Idx → Elt F .f32)
    (X4 : S64x1.Idx → Elt F .i32) (M : S64x512.Idx → Elt F .f32) (I : S64x512.Idx → Elt F .i32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare M ∗ owns (c : Thread nD τ) arg6 fullShare I
        ∗ (iprop(owns (c : Thread nD τ) arg1 fullShare X1 ∗ owns (c : Thread nD τ) arg2 fullShare X2
            ∗ owns (c : Thread nD τ) arg3 fullShare X3
            ∗ owns (c : Thread nD τ) arg4 fullShare (if k0_cond1 i = 1#1 then
                k0_pay1 (carry i X1 X2 X3 (k0_pay50 i M, k0_pay51 i I) 16).1 (carry i X1 X2 X3 (k0_pay50 i M, k0_pay51 i I) 16).2
                else X4)
            ∗ owns (c : Thread nD τ) arg5 fullShare (carry i X1 X2 X3 (k0_pay50 i M, k0_pay51 i I) 16).1
            ∗ owns (c : Thread nD τ) arg6 fullShare (carry i X1 X2 X3 (k0_pay50 i M, k0_pay51 i I) 16).2) -∗ K ⟨⟩))
      ⊢ wp frame (wpE (defs₀ (F := F)) Variants.none c none) Set.univ
          (cc0__sampler_kernel i arg1 harg1 arg2 harg2 arg3 harg3 arg4 harg4 arg5 harg5 arg6 harg6) K := by
  simp only [cc0__sampler_kernel_eq_skeleton]; unfold cc0__sampler_kernel_skel
  unfold owns
  have htr : Scf.trips k0_t1_loop.lb k0_t1_loop.ub k0_t1_loop.st = 16 := trips_eq
  by_cases hc : k0_cond1 i = 1#1
  · iintro ⟨⟨%f1, %e1, H1⟩, ⟨%f2, %e2, H2⟩, ⟨%f3, %e3, H3⟩, ⟨%f4, %e4, H4⟩, ⟨%f5, %e5, H5⟩, ⟨%f6, %e6, H6⟩, Hk⟩
    have hst : st_k0_t1 Variants.none c none i arg1 harg1 arg2 harg2 arg3 harg3 arg4 harg4 arg5 harg5 arg6 harg6
        X1 X2 (base i) f3 (k0_pay50 i M, k0_pay51 i I) 16 = carry i X1 X2 X3 (k0_pay50 i M, k0_pay51 i I) 16 :=
      e3 ▸ st_eq c i arg1 harg1 arg2 harg2 arg3 harg3 arg4 harg4 arg5 harg5 arg6 harg6 X1 X2 f3
        (k0_pay50 i M, k0_pay51 i I) 16 trips_eq.ge
    sl_exec (disch := sl_exact hc)
    sl_step
    iapply Hk
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H4]
    · iexists _; isplitr; swap; · iexact H4
      ipureintro
      rw [if_pos hc, read_store_all _ zeros]
      unfold body_run.sl.r body_run.sl.r_1
      rw [readAt_all _ zeros, readAt_all _ zeros, readAt_all _ zeros, readAt_all _ zeros, e1, e2, e5, e6, htr]
      exact congrArg (fun a : Carry F => k0_pay1 a.1 a.2) hst
    isplitl [H5]
    · iexists _; isplitr; swap; · iexact H5
      ipureintro
      rw [read_store_all _ zeros, k0_pay56, shapeCast_self]
      rw [readAt_all _ zeros, readAt_all _ zeros, readAt_all _ zeros, readAt_all _ zeros, e1, e2, e5, e6, htr]
      exact congrArg Prod.fst hst
    iexists _; isplitr; swap; · iexact H6
    ipureintro
    rw [read_store_all _ zeros]
    unfold body_run.sl.r_2
    rw [k0_pay57, shapeCast_self, readAt_all _ zeros, readAt_all _ zeros, readAt_all _ zeros, readAt_all _ zeros, e1, e2, e5, e6, htr]
    exact congrArg Prod.snd hst
  · iintro ⟨⟨%f1, %e1, H1⟩, ⟨%f2, %e2, H2⟩, ⟨%f3, %e3, H3⟩, ⟨%f4, %e4, H4⟩, ⟨%f5, %e5, H5⟩, ⟨%f6, %e6, H6⟩, Hk⟩
    have hst : st_k0_t1 Variants.none c none i arg1 harg1 arg2 harg2 arg3 harg3 arg4 harg4 arg5 harg5 arg6 harg6
        X1 X2 (base i) f3 (k0_pay50 i M, k0_pay51 i I) 16 = carry i X1 X2 X3 (k0_pay50 i M, k0_pay51 i I) 16 :=
      e3 ▸ st_eq c i arg1 harg1 arg2 harg2 arg3 harg3 arg4 harg4 arg5 harg5 arg6 harg6 X1 X2 f3
        (k0_pay50 i M, k0_pay51 i I) 16 trips_eq.ge
    sl_exec (disch := sl_exact hc)
    sl_step
    iapply Hk
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H4]
    · iexists f4; isplitr; swap; · iexact H4
      ipureintro
      rw [if_neg hc]; exact e4
    isplitl [H5]
    · iexists _; isplitr; swap; · iexact H5
      ipureintro
      rw [read_store_all _ zeros, k0_pay56, shapeCast_self]
      rw [readAt_all _ zeros, readAt_all _ zeros, readAt_all _ zeros, readAt_all _ zeros, e1, e2, e5, e6, htr]
      exact congrArg Prod.fst hst
    iexists _; isplitr; swap; · iexact H6
    ipureintro
    rw [read_store_all _ zeros]
    unfold body_run.sl.r_5
    rw [k0_pay57, shapeCast_self, readAt_all _ zeros, readAt_all _ zeros, readAt_all _ zeros, readAt_all _ zeros, e1, e2, e5, e6, htr]
    exact congrArg Prod.snd hst

end Cert.KernelIdeal.Hand
end
-- ==== Proof.ArgMax.lean ====
module

public import Idealize.ShloMosaic.PureOps.Ideal.Laws

@[expose] public section

/-!
# The first place of a maximum

Both programs return, for each row, the first place at which the row's scores are largest.  Here that place is
described, shown to be unique, and found by a fold of (value, place) pairs under any combiner that keeps the better of
two pairs.
-/

namespace Cert.Spec

open Idealize.ShloMosaic

/-- `r` is the first place at which `f` is largest. -/
def First {N : ℕ} (f : Fin N → EReal) (r : Fin N) : Prop := ∀ l, f l < f r ∨ f l = f r ∧ r ≤ l

/-- There is only one such place. -/
theorem First.unique {N : ℕ} {f : Fin N → EReal} {r r' : Fin N} (h : First f r) (h' : First f r') : r = r' := by
  rcases h r' with a | ⟨a, b⟩
  · rcases h' r with a' | ⟨a', b'⟩
    · exact absurd (a.trans a') (lt_irrefl _)
    · rw [a'] at a; exact absurd a (lt_irrefl _)
  · rcases h' r with a' | ⟨a', b'⟩
    · rw [a] at a'; exact absurd a' (lt_irrefl _)
    · exact le_antisymm b b'

/-- A pair is at least as good as another: a larger value, or the same value at a place no later. -/
def Beats (p q : EReal × BitVec 32) : Prop := q.1 < p.1 ∨ q.1 = p.1 ∧ p.2.toInt ≤ q.2.toInt

theorem Beats.refl (p : EReal × BitVec 32) : Beats p p := .inr ⟨rfl, le_refl _⟩

theorem Beats.trans {p q r : EReal × BitVec 32} (h : Beats p q) (h' : Beats q r) : Beats p r := by
  rcases h with a | ⟨a, b⟩ <;> rcases h' with a' | ⟨a', b'⟩
  · exact .inl (a'.trans a)
  · exact .inl (a' ▸ a)
  · exact .inl (a ▸ a')
  · exact .inr ⟨a'.trans a, b.trans b'⟩

/-- A fold under a combiner that keeps the better pair ends at one of the pairs, as good as any. -/
theorem foldl_beats (f : EReal × BitVec 32 → EReal × BitVec 32 → EReal × BitVec 32)
    (hf : ∀ a b, (f a b = a ∨ f a b = b) ∧ Beats (f a b) a ∧ Beats (f a b) b) (L : List (EReal × BitVec 32)) :
    ∀ z, (L.foldl f z = z ∨ L.foldl f z ∈ L) ∧ Beats (L.foldl f z) z ∧ ∀ p ∈ L, Beats (L.foldl f z) p := by
  induction L with
  | nil => exact fun z => ⟨.inl rfl, .refl z, by simp⟩
  | cons a L ih =>
    intro z
    obtain ⟨h₁, h₂, h₃⟩ := ih (f z a)
    obtain ⟨g₁, g₂, g₃⟩ := hf z a
    rw [List.foldl_cons]
    refine ⟨?_, h₂.trans g₂, fun p hp => ?_⟩
    · rcases h₁ with h | h
      · rcases g₁ with g | g
        · exact .inl (h.trans g)
        · exact .inr (by rw [h, g]; exact List.mem_cons_self)
      · exact .inr (List.mem_cons_of_mem _ h)
    · rcases List.mem_cons.mp hp with rfl | hp
      · exact h₂.trans g₃
      · exact h₃ p hp

/-- Such a fold over a row's pairs, from the least value at place zero, ends at the first place of the maximum. -/
theorem foldl_first {N : ℕ} (hN : 0 < N) (hN' : N ≤ 2 ^ 31) (f : Fin N → EReal)
    (g : EReal × BitVec 32 → EReal × BitVec 32 → EReal × BitVec 32)
    (hg : ∀ a b, (g a b = a ∨ g a b = b) ∧ Beats (g a b) a ∧ Beats (g a b) b) (L : List (EReal × BitVec 32))
    (hL : ∀ p, p ∈ L ↔ ∃ l : Fin N, p = (f l, BitVec.ofNat 32 l.val)) :
    ∃ r : Fin N, First f r ∧ (L.foldl g (⊥, 0#32)).2 = BitVec.ofNat 32 r.val := by
  have toInt (l : Fin N) : (BitVec.ofNat 32 l.val).toInt = l.val := by
    have := l.isLt
    rw [BitVec.toInt_eq_toNat_of_lt] <;> simp <;> omega
  obtain ⟨h₁, h₂, h₃⟩ := foldl_beats g hg L (⊥, 0#32)
  obtain ⟨r, hr⟩ : ∃ r : Fin N, L.foldl g (⊥, 0#32) = (f r, BitVec.ofNat 32 r.val) := by
    rcases h₁ with h | h
    · refine ⟨⟨0, hN⟩, ?_⟩
      rcases h₃ _ ((hL _).mpr ⟨⟨0, hN⟩, rfl⟩) with a | ⟨a, -⟩
      · rw [h] at a; exact absurd a not_lt_bot
      · rw [h] at a ⊢; exact Prod.ext a.symm rfl
    · exact (hL _).mp h
  rw [hr] at h₃ ⊢
  refine ⟨r, fun l => ?_, rfl⟩
  rcases h₃ _ ((hL _).mpr ⟨l, rfl⟩) with a | ⟨a, b⟩
  · exact .inl a
  · refine .inr ⟨a, ?_⟩
    rw [toInt, toInt] at b
    exact Fin.le_def.mpr (by omega)

end Cert.Spec
-- ==== Proof.Held.lean ====
module

public import proofs.«01_k».proof.Proof.ArgMax

@[expose] public section

/-!
# A running maximum by lanes

The kernel walks a row in strides of 512 lanes and keeps, lane by lane, the largest value met and the place it was met at
first.  `Held` says what a lane keeps after some strides; `held_step` that one stride preserves it; `held_first` that
choosing the largest lane, and among equal lanes the least place, gives the first place of the row's maximum.
-/

namespace Cert.Spec

/-- A row continued past its end by the least value. -/
noncomputable def past {N : ℕ} (f : Fin N → EReal) (l : ℕ) : EReal := if h : l < N then f ⟨l, h⟩ else ⊥

theorem past_of_lt {N : ℕ} (f : Fin N → EReal) {l : ℕ} (h : l < N) : past f l = f ⟨l, h⟩ := dif_pos h
theorem past_of_ge {N : ℕ} (f : Fin N → EReal) {l : ℕ} (h : ¬ l < N) : past f l = ⊥ := dif_neg h

/-- What lane `s` holds after `n` strides: nothing yet, or a value it met and that value's place; nothing it met is larger,
    and nothing as large came earlier. -/
def Held (g : ℕ → EReal) (s n : ℕ) (M : EReal) (I : BitVec 32) : Prop :=
  (M = ⊥ ∧ I = 0#32 ∨ ∃ j < n, I = BitVec.ofNat 32 (512 * j + s) ∧ M = g (512 * j + s) ∧ M ≠ ⊥)
    ∧ ∀ j < n, g (512 * j + s) < M ∨ g (512 * j + s) = M ∧ I.toNat ≤ 512 * j + s

theorem held_zero (g : ℕ → EReal) (s : ℕ) : Held g s 0 ⊥ 0#32 := ⟨.inl ⟨rfl, rfl⟩, by simp⟩

/-- One stride. -/
theorem held_step (g : ℕ → EReal) (s n : ℕ) (M : EReal) (I : BitVec 32) (h : Held g s n M I) :
    Held g s (n + 1) (if M < g (512 * n + s) then g (512 * n + s) else M)
      (if M < g (512 * n + s) then BitVec.ofNat 32 (512 * n + s) else I) := by
  obtain ⟨h₁, h₂⟩ := h
  by_cases hv : M < g (512 * n + s)
  · rw [if_pos hv, if_pos hv]
    refine ⟨.inr ⟨n, Nat.lt_succ_self n, rfl, rfl, ne_bot_of_gt hv⟩, fun j hj => ?_⟩
    rcases Nat.lt_succ_iff_lt_or_eq.mp hj with hj | rfl
    · rcases h₂ j hj with a | ⟨a, -⟩
      · exact .inl (a.trans hv)
      · exact .inl (a ▸ hv)
    · exact .inr ⟨rfl, by simpa using Nat.mod_le _ _⟩
  · rw [if_neg hv, if_neg hv]
    refine ⟨?_, fun j hj => ?_⟩
    · rcases h₁ with h₁ | ⟨j, hj, h₁⟩
      · exact .inl h₁
      · exact .inr ⟨j, Nat.lt_succ_of_lt hj, h₁⟩
    · rcases Nat.lt_succ_iff_lt_or_eq.mp hj with hj | rfl
      · exact h₂ j hj
      · rcases lt_or_eq_of_le (not_lt.mp hv) with a | a
        · exact .inl a
        · refine .inr ⟨a, ?_⟩
          rcases h₁ with ⟨-, rfl⟩ | ⟨i, hi, rfl, -⟩
          · simp
          · have := Nat.mod_le (512 * i + s) (2 ^ 32)
            rw [BitVec.toNat_ofNat]; omega

/-- A lane's place is a nonnegative signed number, and below the largest one. -/
theorem Held.toNat_lt {g : ℕ → EReal} {s n : ℕ} {M : EReal} {I : BitVec 32} (h : Held g s n M I) (hs : s < 512)
    (hn : 512 * n < 2 ^ 31) : I.toNat < 2 ^ 31 - 1 := by
  rcases h.1 with ⟨-, rfl⟩ | ⟨j, hj, rfl, -⟩
  · simp
  · have := Nat.mod_le (512 * j + s) (2 ^ 32)
    rw [BitVec.toNat_ofNat]; omega

/-- The choice across lanes. -/
theorem held_first {N n : ℕ} (hN : 0 < N) (hn : N ≤ 512 * n) (hn' : 512 * n < 2 ^ 31) (f : Fin N → EReal)
    (M : Fin 512 → EReal) (I : Fin 512 → BitVec 32) (h : ∀ s, Held (past f) s.val n (M s) (I s))
    (best : EReal) (hb : ∀ s, M s ≤ best) (z : BitVec 32) (s₀ : Fin 512) (h₀ : M s₀ = best) (hz : z = I s₀)
    (hz' : ∀ s, M s = best → z.toNat ≤ (I s).toNat) :
    ∃ r : Fin N, First f r ∧ z = BitVec.ofNat 32 r.val := by
  have all (l : Fin N) : f l < best ∨ f l = best ∧ z.toNat ≤ l.val := by
    have hl : 512 * (l.val / 512) + l.val % 512 = l.val := Nat.div_add_mod l.val 512
    have hj : l.val / 512 < n := by have := l.isLt; omega
    have e : past f (512 * (l.val / 512) + l.val % 512) = f l := by rw [hl]; exact past_of_lt f l.isLt
    rcases (h ⟨l.val % 512, Nat.mod_lt _ (by norm_num)⟩).2 _ hj with a | ⟨a, b⟩
    · exact .inl (by rw [← e]; exact a.trans_le (hb _))
    · rcases lt_or_eq_of_le (hb ⟨l.val % 512, Nat.mod_lt _ (by norm_num)⟩) with c | c
      · exact .inl (by rw [← e]; exact a ▸ c)
      · exact .inr ⟨by rw [← e, ← c]; exact a, (hz' _ c).trans (by simp only at b; omega)⟩
  rcases (h s₀).1 with ⟨hM, hI⟩ | ⟨j, hj, hI, hM, hM'⟩
  · rw [h₀] at hM
    have bot (l : Fin N) : f l = ⊥ := by
      rcases all l with a | ⟨a, -⟩
      · rw [hM] at a; exact absurd a not_lt_bot
      · exact a.trans hM
    exact ⟨⟨0, hN⟩, fun l => .inr ⟨by rw [bot, bot], Fin.le_def.mpr (Nat.zero_le _)⟩, hz.trans hI⟩
  · have hlt : 512 * j + s₀.val < N := by
      by_contra hc
      exact hM' (hM.trans (past_of_ge f hc))
    rw [past_of_lt f hlt, h₀] at hM
    refine ⟨⟨_, hlt⟩, fun l => ?_, hz.trans hI⟩
    rw [← hM]
    rcases all l with a | ⟨a, b⟩
    · exact .inl a
    · refine .inr ⟨a, Fin.le_def.mpr ?_⟩
      rw [hz, hI, BitVec.toNat_ofNat, Nat.mod_eq_of_lt (by have := s₀.isLt; omega)] at b
      exact b

end Cert.Spec
-- ==== Proof.Value.lean ====
module

public import proofs.«01_k».proof.Proof.Body
public import proofs.«01_k».proof.Proof.Held

@[expose] public section

/-!
# What the kernel's lanes hold

The kernel's payloads read at one lane, at the ideal values: one trip is one stride of the running maximum, and the last
point's choice is the first place of the row's largest score.
-/

noncomputable section

namespace Cert.KernelIdeal.Hand

open Cert.KernelIdeal Cert.KernelIdeal.Gen
open Idealize.ShloMosaic hiding ix1 ix2
open Idealize.ShloMosaic.TcCoe Idealize.ShloMosaic.ValueIdx

/-! ## The choice across lanes -/

/-- A fold by an operation that returns one of its operands, standing in a preorder to both, returns the start or a member
    and stands so to all of them. -/
theorem fold_choice {α ι : Type} [DecidableEq ι] (op : α → α → α) [Std.Commutative op] [Std.Associative op] (R : α → α → Prop)
    (hrefl : ∀ a, R a a) (htrans : ∀ a b c, R a b → R b c → R a c)
    (hop : ∀ a b, (op a b = a ∨ op a b = b) ∧ R (op a b) a ∧ R (op a b) b) (z : α) (x : ι → α) (S : Finset ι) :
    (S.fold op z x = z ∨ ∃ i ∈ S, S.fold op z x = x i) ∧ R (S.fold op z x) z ∧ ∀ i ∈ S, R (S.fold op z x) (x i) := by
  induction S using Finset.cons_induction with
  | empty => exact ⟨.inl rfl, hrefl z, by simp⟩
  | cons a S ha ih =>
    obtain ⟨h₁, h₂, h₃⟩ := ih
    rw [Finset.fold_cons]
    obtain ⟨g₁, g₂, g₃⟩ := hop (x a) (S.fold op z x)
    refine ⟨?_, htrans _ _ _ g₃ h₂, fun i hi => ?_⟩
    · rcases g₁ with g | g
      · exact .inr ⟨a, Finset.mem_cons_self a S, g⟩
      · rw [g]
        rcases h₁ with h | ⟨i, hi, h⟩
        · exact .inl h
        · exact .inr ⟨i, Finset.mem_cons_of_mem hi, h⟩
    · rcases Finset.mem_cons.mp hi with rfl | hi
      · exact g₂
      · exact htrans _ _ _ g₃ (h₃ i hi)

/-- A row's lane, as the reduction inserts it. -/
theorem lift_lane (b : Fin 64) (s : Fin 512) : reduces_S64x512_S64.lift (ix1 b) s = ix2 b s := by
  funext a
  fin_cases a <;> rfl

/-- The largest of a row's lanes. -/
def rowMax (M : FVec Ideal S64x512 .f32) : FVec Ideal S64 .f32 :=
  multiReduction .maximumf [1] S64 M 0xFF800000#32 reduces_S64x512_S64 (.inl rfl) rfl

/-- The least of a row's places. -/
def rowMin (I : IVec S64x512 32) : IVec S64 32 := multiReductionI .minsi [1] S64 I 2147483647#32 reduces_S64x512_S64 rfl

theorem rowMax_spec (M : FVec Ideal S64x512 .f32) (b : Fin 64) :
    (∀ s : Fin 512, M (ix2 b s) ≤ rowMax M (ix1 b)) ∧ ∃ s : Fin 512, M (ix2 b s) = rowMax M (ix1 b) := by
  have e : rowMax M (ix1 b) = (Finset.univ : Finset (Fin 512)).fold max (Ideal.ofBits .f32 0xFF800000#32)
      (fun s : Fin 512 => M (ix2 b s)) :=
    (Ideal.multiReduction_maximumf_single M _ reduces_S64x512_S64 _ _ (ix1 b)).trans
      (congrArg (fun g : Fin 512 → EReal => (Finset.univ : Finset (Fin 512)).fold max (Ideal.ofBits .f32 0xFF800000#32) g)
        (funext fun s => congrArg M (lift_lane b s)))
  obtain ⟨h₁, -, h₃⟩ := fold_choice (max : EReal → EReal → EReal) (fun a b => b ≤ a) le_refl (fun a b c h h' => h'.trans h)
    (fun a b => ⟨max_choice a b, le_max_left a b, le_max_right a b⟩) (Ideal.ofBits .f32 0xFF800000#32)
    (fun s : Fin 512 => M (ix2 b s)) (Finset.univ : Finset (Fin 512))
  rw [← e] at h₁ h₃
  have all (s : Fin 512) : M (ix2 b s) ≤ rowMax M (ix1 b) := h₃ s (Finset.mem_univ s)
  refine ⟨all, ?_⟩
  rcases h₁ with h | ⟨s, -, h⟩
  · exact ⟨0, le_antisymm (all 0) (le_of_eq_of_le h (by rw [ofBits_bot]; exact bot_le))⟩
  · exact ⟨s, h.symm⟩

theorem rowMin_spec (I : IVec S64x512 32) (b : Fin 64) :
    (∀ s : Fin 512, (rowMin I (ix1 b)).toInt ≤ (I (ix2 b s)).toInt)
      ∧ (rowMin I (ix1 b) = 2147483647#32 ∨ ∃ s : Fin 512, rowMin I (ix1 b) = I (ix2 b s)) := by
  have e : rowMin I (ix1 b) = (Finset.univ : Finset (Fin 512)).fold (IKind.op .minsi) 2147483647#32
      (fun s : Fin 512 => I (ix2 b s)) :=
    ((multiReductionI_eq_fold .minsi I 2147483647#32 reduces_S64x512_S64 rfl (ix1 b)).trans
      (Shape.Reduces.fold_filter_drop_single reduces_S64x512_S64 _ _ I (ix1 b))).trans
      (congrArg (fun g : Fin 512 → BitVec 32 => (Finset.univ : Finset (Fin 512)).fold (IKind.op .minsi) 2147483647#32 g)
        (funext fun s => congrArg I (lift_lane b s)))
  obtain ⟨h₁, -, h₃⟩ := fold_choice (IKind.op .minsi) (fun a b => a.toInt ≤ b.toInt) (fun a => le_refl _)
    (fun a b c h h' => h.trans h') (fun a b => by
      show (IntOp.minsi a b = a ∨ IntOp.minsi a b = b) ∧ (IntOp.minsi a b).toInt ≤ a.toInt ∧ (IntOp.minsi a b).toInt ≤ b.toInt
      unfold IntOp.minsi
      by_cases h : a.toInt < b.toInt
      · rw [if_pos (show a.slt b = true from decide_eq_true h)]; exact ⟨.inl rfl, le_refl _, h.le⟩
      · rw [if_neg (show ¬ a.slt b = true from fun h' => h (of_decide_eq_true h'))]; exact ⟨.inr rfl, not_lt.mp h, le_refl _⟩)
    2147483647#32 (fun s : Fin 512 => I (ix2 b s)) (Finset.univ : Finset (Fin 512))
  rw [← e] at h₁ h₃
  refine ⟨fun s => h₃ s (Finset.mem_univ s), ?_⟩
  rcases h₁ with h | ⟨s, -, h⟩
  · exact .inl h
  · exact .inr ⟨s, h⟩

/-- The last point's choice: the first place of the row's largest value. -/
theorem pay1_first (M : FVec Ideal S64x512 .f32) (I : IVec S64x512 32) (b : Fin 64) (f : Fin 1000000 → EReal)
    (h : ∀ s : Fin 512, Spec.Held (Spec.past f) s.val 1968 (M (ix2 b s)) (I (ix2 b s))) :
    ∃ r, Spec.First f r ∧ k0_pay1 M I (ix2 b 0) = BitVec.ofNat 32 r.val := by
  have row {α : Type} (v : S64.Idx → α) : shapeCast S64x1 v shapeCasts_S64_S64x1 (ix2 b 0) = v (ix1 b) :=
    shapeCast_apply v _ _ _ (by
      rw [Shape.rowMajor_val_one, Shape.rowMajor_val_two]; show b.val = b.val * 1 + 0; omega)
  have spread {α : Type} (v : S64x1.Idx → α) (s : Fin 512) :
      broadcastTo S64x512 v broadcasts_S64x1_S64x512 (ix2 b s) = v (ix2 b 0) :=
    broadcastTo_apply v _ _ _ (fun a => by fin_cases a <;> rfl)
  have e : k0_pay1 M I = shapeCast S64x1 (rowMin (select (cmpf .oeq M (broadcastTo S64x512
      (shapeCast S64x1 (rowMax M) shapeCasts_S64_S64x1) broadcasts_S64x1_S64x512)) I (broadcast S64x512 2147483647#32)))
      shapeCasts_S64_S64x1 := rfl
  rw [e, row]
  obtain ⟨hle, s₀, h₀⟩ := rowMax_spec M b
  have kept (s : Fin 512) : select (cmpf .oeq M (broadcastTo S64x512 (shapeCast S64x1 (rowMax M) shapeCasts_S64_S64x1)
      broadcasts_S64x1_S64x512)) I (broadcast S64x512 2147483647#32) (ix2 b s)
        = if M (ix2 b s) = rowMax M (ix1 b) then I (ix2 b s) else 2147483647#32 := by
    rw [select_apply, cmpf_apply, spread, row, broadcast_apply, Ideal.cmpf_def]
    by_cases e : M (ix2 b s) = rowMax M (ix1 b) <;> simp [Scalar.select, Ideal.cmp, e]
  generalize select (cmpf .oeq M (broadcastTo S64x512 (shapeCast S64x1 (rowMax M) shapeCasts_S64_S64x1)
      broadcasts_S64x1_S64x512)) I (broadcast S64x512 2147483647#32) = K at kept ⊢
  generalize rowMax M (ix1 b) = best at hle h₀ kept
  obtain ⟨hmin, hmem⟩ := rowMin_spec K b
  generalize rowMin K (ix1 b) = z at hmin hmem ⊢
  have small (s : Fin 512) := (h s).toNat_lt s.isLt (by norm_num)
  have toInt (s : Fin 512) : (I (ix2 b s)).toInt = (I (ix2 b s)).toNat :=
    BitVec.toInt_eq_toNat_of_lt (by have := small s; omega)
  have hz₀ := hmin s₀
  rw [kept, if_pos h₀, toInt] at hz₀
  have s0 := small s₀
  have hz : ∃ s, M (ix2 b s) = best ∧ z = I (ix2 b s) := by
    rcases hmem with hm | ⟨s, hm⟩
    · rw [hm, show (2147483647#32 : BitVec 32).toInt = 2147483647 by decide] at hz₀
      omega
    · rw [kept] at hm
      by_cases e : M (ix2 b s) = best
      · rw [if_pos e] at hm; exact ⟨s, e, hm⟩
      · rw [if_neg e] at hm
        rw [hm, show (2147483647#32 : BitVec 32).toInt = 2147483647 by decide] at hz₀
        omega
  obtain ⟨s₁, e₁, hz₁⟩ := hz
  refine Spec.held_first (n := 1968) (by norm_num) (by norm_num) (by norm_num) f (fun s => M (ix2 b s)) (fun s => I (ix2 b s)) h
    best hle z s₁ e₁ hz₁ fun s hs => ?_
  have := hmin s
  rw [kept, if_pos hs, hz₁, toInt, toInt] at this
  rw [hz₁]
  omega

end Cert.KernelIdeal.Hand

end
-- ==== Proof.Trip.lean ====
module

public import proofs.«01_k».proof.Proof.Value

@[expose] public section

/-!
# One grid point at one lane

One trip of the loop is one stride of the lane's running maximum, so a grid point's sixteen trips are sixteen strides.
-/

noncomputable section

namespace Cert.KernelIdeal.Hand

open Cert.KernelIdeal Cert.KernelIdeal.Gen
open Idealize.ShloMosaic hiding ix1 ix2
open Idealize.ShloMosaic.TcCoe Idealize.ShloMosaic.ValueIdx

/-- The scores of row `b` of the logits `x` at the temperatures `t`. -/
def rowScores (x : S64x1000000.Idx → EReal) (t : S64.Idx → EReal) (b : Fin 64) (l : Fin 1000000) : EReal :=
  Spec.score (t (ix1 b)) (x (ix2 b l)) (Spec.word (BitVec.ofNat 32 (1000000 * b.val + l.val)))

/-- The stride a trip is, counted over all points. -/
abbrev stride (i : grid0.Coords) (k : ℕ) : ℕ := 16 * (i 0).val + k

/-- A point's number is below the grid's. -/
theorem point_lt (i : grid0.Coords) : (i 0).val < 123 := (i 0).isLt

/-- A trip's lane number. -/
theorem lane_read (i : grid0.Coords) (k : Fin k0_t1_loop.trips) (b : Fin 64) (s : Fin 512) :
    k0_pay2 (base i) 0#32 1#32 k (ix2 b s) = BitVec.ofNat 32 (512 * stride i k.val + s.val) := by
  have hk : k.val < 16 := trips_eq ▸ k.isLt
  have hi := point_lt i
  have e : k0_pay2 (base i) 0#32 1#32 k (ix2 b s)
    = iota .tc S64x512 32 [1] iota_S64x512_d1_w32 (ix2 b s) + (base i + (0#32 + BitVec.ofNat 32 k.val * 1#32) * 512#32) := rfl
  rw [e, iota_single_apply]
  show BitVec.ofNat 32 s.val + (BitVec.ofNat 32 (i 0).val * 8192#32 + (0#32 + BitVec.ofNat 32 k.val * 1#32) * 512#32) = _
  rw [stride, show 512 * (16 * (i 0).val + k.val) + s.val = s.val + ((i 0).val * 8192 + (0 + k.val * 1) * 512) by ring]
  simp only [BitVec.ofNat_add, BitVec.ofNat_mul]

/-- A trip's counter at a lane: the lane's row-major number, and the key word. -/
theorem counter_read (i : grid0.Coords) (X2 : IVec S64x1 32) (k : Fin k0_t1_loop.trips) (b : Fin 64) (s : Fin 512)
    (h : X2 (ix2 b 0) = BitVec.ofNat 32 b.val * 1000000#32) :
    k0_pay3 (k0_pay49 (F := Ideal) X2) (base i) 0#32 1#32 k (ix2 b s)
      = BitVec.ofNat 32 (1000000 * b.val + (512 * stride i k.val + s.val)) + 42#32 := by
  have e : k0_pay3 (k0_pay49 (F := Ideal) X2) (base i) 0#32 1#32 k (ix2 b s)
    = broadcastTo S64x512 (shapeCast S64x1 X2 shapeCasts_S64x1_S64x1) broadcasts_S64x1_S64x512 (ix2 b s)
      + k0_pay2 (base i) 0#32 1#32 k (ix2 b s) + 42#32 := rfl
  rw [e, lane_read, shapeCast_self, broadcastTo_apply X2 _ (ix2 b s) (ix2 b 0) (fun a => by fin_cases a <;> rfl), h]
  generalize 512 * stride i k.val + s.val = n
  rw [BitVec.ofNat_add, BitVec.ofNat_mul, BitVec.mul_comm]

/-- The place a trip reads in its point's block. -/
theorem part_read (X3 : S64x8192.Idx → EReal) (k : Fin k0_t1_loop.trips) (b : Fin 64) (s : Fin 512)
    (h : 512 * k.val + s.val < 8192) :
    part (F := Ideal) X3 k (ix2 b s) = X3 (ix2 b ⟨512 * k.val + s.val, h⟩) := by
  have hk : k.val < 16 := trips_eq ▸ k.isLt
  unfold part
  congr 1
  funext a
  apply Fin.ext
  rw [Rect.emb_apply]
  fin_cases a
  · show 0 + 1 * b.val = b.val; omega
  · show ((0#32 + BitVec.ofNat 32 k.val * 1#32) * 512#32).toNat + 1 * s.val = 512 * k.val + s.val
    simp only [BitVec.toNat_add, BitVec.toNat_mul, BitVec.toNat_ofNat]
    omega

/-- A lane number below the vocabulary's end is one the kernel scores. -/
theorem slt_iff (n : ℕ) (h : n < 2 ^ 31) : (BitVec.ofNat 32 n).slt 1000000#32 = true ↔ n < 1000000 := by
  have e : (BitVec.ofNat 32 n).toInt = n := by
    rw [BitVec.toInt_eq_toNat_of_lt (by rw [BitVec.toNat_ofNat]; omega), BitVec.toNat_ofNat]
    omega
  rw [BitVec.slt_iff_toInt_lt, e, show (1000000#32 : BitVec 32).toInt = 1000000 by decide]
  omega

/-- What a point's blocks hold: the temperatures, the row offsets, and the logits where the block lies in the array. -/
structure Blocks (x : S64x1000000.Idx → EReal) (t : S64.Idx → EReal) (i : grid0.Coords)
    (X1 : S64x1.Idx → EReal) (X2 : S64x1.Idx → BitVec 32) (X3 : S64x8192.Idx → EReal) : Prop where
  temps (b : Fin 64) : X1 (ix2 b 0) = t (ix1 b)
  offsets (b : Fin 64) : X2 (ix2 b 0) = BitVec.ofNat 32 b.val * 1000000#32
  logits (b : Fin 64) (l : Fin 8192) (h : 8192 * (i 0).val + l.val < 1000000) :
    X3 (ix2 b l) = x (ix2 b ⟨8192 * (i 0).val + l.val, h⟩)

section Trip

variable {x : S64x1000000.Idx → EReal} {t : S64.Idx → EReal} {i : grid0.Coords}
  {X1 : S64x1.Idx → EReal} {X2 : S64x1.Idx → BitVec 32} {X3 : S64x8192.Idx → EReal}

/-- A trip's score at a lane is the row's, continued past the row's end. -/
theorem score_read (B : Blocks x t i X1 X2 X3) (k : Fin k0_t1_loop.trips) (b : Fin 64) (s : Fin 512) :
    k0_pay52 (F := Ideal) X1 (part X3 k) (k0_pay2 (base i) 0#32 1#32 k) (words (k0_pay49 (F := Ideal) X2) (base i) k).1
      (words (k0_pay49 (F := Ideal) X2) (base i) k).2 0#32 (ix2 b s)
      = Spec.past (rowScores x t b) (512 * stride i k.val + s.val) := by
  have hk : k.val < 16 := trips_eq ▸ k.isLt
  have hi := point_lt i
  have hs := s.isLt
  have hl : 512 * k.val + s.val < 8192 := by omega
  have hn : 512 * stride i k.val + s.val = 8192 * (i 0).val + (512 * k.val + s.val) := by unfold stride; omega
  rw [score_lane, lane_read, words_word _ _ _ _ _ (counter_read i X2 k b s (B.offsets b)), part_read X3 k b s hl]
  by_cases h : 512 * stride i k.val + s.val < 1000000
  · rw [if_pos ((slt_iff _ (by omega)).mpr h), Spec.past_of_lt _ h]
    unfold rowScores
    have hx := B.logits b ⟨512 * k.val + s.val, hl⟩ (by simp only; omega)
    rw [hx]
    show Spec.score (X1 (ix2 b 0)) _ _ = _
    rw [B.temps]
    simp only [hn]
  · rw [if_neg (fun c => h ((slt_iff _ (by omega)).mp c)), Spec.past_of_ge _ h]

/-- One trip is one stride. -/
theorem trip_held (B : Blocks x t i X1 X2 X3) (k : Fin k0_t1_loop.trips) (b : Fin 64) (s : Fin 512) (acc : Carry Ideal)
    (h : Spec.Held (Spec.past (rowScores x t b)) s.val (stride i k.val) (acc.1 (ix2 b s)) (acc.2 (ix2 b s))) :
    Spec.Held (Spec.past (rowScores x t b)) s.val (stride i (k.val + 1))
      ((trip i X1 X2 X3 k acc).1 (ix2 b s)) ((trip i X1 X2 X3 k acc).2 (ix2 b s)) := by
  have step := Spec.held_step _ _ _ _ _ h
  rw [← score_read B k b s] at step
  have lane := lane_read i k b s
  rw [← lane] at step
  have e₁ : (trip (F := Ideal) i X1 X2 X3 k acc).1 (ix2 b s)
      = if acc.1 (ix2 b s) < k0_pay52 (F := Ideal) X1 (part X3 k) (k0_pay2 (base i) 0#32 1#32 k)
          (words (k0_pay49 (F := Ideal) X2) (base i) k).1 (words (k0_pay49 (F := Ideal) X2) (base i) k).2 0#32 (ix2 b s)
        then k0_pay52 (F := Ideal) X1 (part X3 k) (k0_pay2 (base i) 0#32 1#32 k)
          (words (k0_pay49 (F := Ideal) X2) (base i) k).1 (words (k0_pay49 (F := Ideal) X2) (base i) k).2 0#32 (ix2 b s)
        else acc.1 (ix2 b s) := by
    unfold trip k0_pay54 k0_pay53
    dsimp only
    rw [select_apply, cmpf_apply, Ideal.cmpf_def]
    generalize k0_pay52 (F := Ideal) X1 _ _ _ _ _ _ = v
    by_cases hv : acc.1 (ix2 b s) < v <;> simp [Scalar.select, Ideal.cmp, hv]
  have e₂ : (trip (F := Ideal) i X1 X2 X3 k acc).2 (ix2 b s)
      = if acc.1 (ix2 b s) < k0_pay52 (F := Ideal) X1 (part X3 k) (k0_pay2 (base i) 0#32 1#32 k)
          (words (k0_pay49 (F := Ideal) X2) (base i) k).1 (words (k0_pay49 (F := Ideal) X2) (base i) k).2 0#32 (ix2 b s)
        then k0_pay2 (base i) 0#32 1#32 k (ix2 b s)
        else acc.2 (ix2 b s) := by
    unfold trip k0_pay55 k0_pay53
    dsimp only
    rw [select_apply, cmpf_apply, Ideal.cmpf_def]
    generalize k0_pay52 (F := Ideal) X1 _ _ _ _ _ _ = v
    by_cases hv : acc.1 (ix2 b s) < v <;> simp [Scalar.select, Ideal.cmp, hv]
  rw [e₁, e₂]
  exact step

/-- What every lane holds after some strides. -/
def AllHeld (x : S64x1000000.Idx → EReal) (t : S64.Idx → EReal) (n : ℕ) (M : S64x512.Idx → EReal)
    (I : S64x512.Idx → BitVec 32) : Prop :=
  ∀ (b : Fin 64) (s : Fin 512), Spec.Held (Spec.past (rowScores x t b)) s.val n (M (ix2 b s)) (I (ix2 b s))

/-- The trips of one point, one after the other. -/
theorem carry_held (B : Blocks x t i X1 X2 X3) (init : Carry Ideal) (h : AllHeld x t (stride i 0) init.1 init.2) :
    ∀ k ≤ 16, AllHeld x t (stride i k) (carry (F := Ideal) i X1 X2 X3 init k).1 (carry (F := Ideal) i X1 X2 X3 init k).2
  | 0, _ => h
  | k + 1, hk => fun b s => by
    have hk' : k < k0_t1_loop.trips := by rw [trips_eq]; omega
    rw [show carry (F := Ideal) i X1 X2 X3 init (k + 1) = trip i X1 X2 X3 ⟨k, hk'⟩ (carry i X1 X2 X3 init k)
      from dif_pos hk']
    exact trip_held B ⟨k, hk'⟩ b s _ (carry_held B init h k (by omega) b s)

/-- What a point starts from: nothing at the first, else what the scratch holds. -/
theorem start_held (M : S64x512.Idx → EReal) (I : S64x512.Idx → BitVec 32)
    (h : 0 < (i 0).val → AllHeld x t (16 * (i 0).val) M I) :
    AllHeld x t (stride i 0) (k0_pay50 (F := Ideal) i M) (k0_pay51 (F := Ideal) i I) := by
  have hi := point_lt i
  rcases Nat.eq_zero_or_pos (i 0).val with h0 | h0
  · intro b s
    have e₁ : k0_pay50 (F := Ideal) i M (ix2 b s) = ⊥ := by
      show Scalar.select (Scalar.cmpi .eq (BitVec.ofNat 32 (i 0).val) 0#32) (broadcast S64x512 (Ideal.ofBits .f32 0xFF800000#32)) M
        (ix2 b s) = ⊥
      rw [h0, ofBits_bot]; rfl
    have e₂ : k0_pay51 (F := Ideal) i I (ix2 b s) = 0#32 := by
      show Scalar.select (Scalar.cmpi .eq (BitVec.ofNat 32 (i 0).val) 0#32) (broadcast S64x512 0#32) I (ix2 b s) = 0#32
      rw [h0]; rfl
    rw [e₁, e₂, stride, h0]
    exact Spec.held_zero _ _
  · have ne : Scalar.cmpi .eq (BitVec.ofNat 32 (i 0).val) 0#32 = 0#1 := by
      have : BitVec.ofNat 32 (i 0).val ≠ 0#32 := fun e => by
        have := congrArg BitVec.toNat e
        simp only [BitVec.toNat_ofNat] at this
        omega
      show BitVec.ofBool (BitVec.ofNat 32 (i 0).val == 0#32) = 0#1
      rw [beq_eq_false_iff_ne.mpr this]; rfl
    have e₁ : k0_pay50 (F := Ideal) i M = M := by
      show Scalar.select (Scalar.cmpi .eq (BitVec.ofNat 32 (i 0).val) 0#32) _ M = M
      rw [ne]; rfl
    have e₂ : k0_pay51 (F := Ideal) i I = I := by
      show Scalar.select (Scalar.cmpi .eq (BitVec.ofNat 32 (i 0).val) 0#32) _ I = I
      rw [ne]; rfl
    rw [e₁, e₂]
    exact h h0

/-- A whole point: from what sixteen strides per earlier point leave, what sixteen more leave. -/
theorem point_held (B : Blocks x t i X1 X2 X3) (M : S64x512.Idx → EReal) (I : S64x512.Idx → BitVec 32)
    (h : 0 < (i 0).val → AllHeld x t (16 * (i 0).val) M I) :
    AllHeld x t (16 * ((i 0).val + 1))
      (carry (F := Ideal) i X1 X2 X3 (k0_pay50 (F := Ideal) i M, k0_pay51 (F := Ideal) i I) 16).1
      (carry (F := Ideal) i X1 X2 X3 (k0_pay50 (F := Ideal) i M, k0_pay51 (F := Ideal) i I) 16).2 :=
  carry_held B (k0_pay50 (F := Ideal) i M, k0_pay51 (F := Ideal) i I) (start_held M I h) 16 le_rfl

end Trip

end Cert.KernelIdeal.Hand

end
-- ==== Proof.Blocks.lean ====
module

public import proofs.«01_k».proof.Proof.Trip
public import Idealize.ShloMosaic.Lib.StableHlo.RunRead

@[expose] public section

/-!
# What the windows' blocks hold

The region finds the temperatures and the row offsets as the host lines before it leave them, and at each point the logits'
block of that point, cut at the array's end.
-/

noncomputable section

namespace Cert.KernelIdeal.Hand

open Cert.KernelIdeal Cert.KernelIdeal.Gen
open Idealize.ShloMosaic hiding ix1 ix2
open Idealize.ShloMosaic.TcCoe Idealize.ShloMosaic.ValueIdx Idealize.ShloMosaic.StableHlo Idealize.SL.Sem

variable {F : FTy → Type} [FloatOps F] (m : (ℓ : Loc nD τ sig) → Buf (Elt F) ℓ)

/-- A row written as a column. -/
theorem column_read {α : Type} (v : S64.Idx → α) (b : Fin 64) :
    shapeCast S64x1 v shapeCasts_S64_S64x1 (ix2 b 0) = v (ix1 b) :=
  shapeCast_apply v _ _ _ (by
    rw [Shape.rowMajor_val_one, Shape.rowMajor_val_two]; show b.val = b.val * 1 + 0; omega)

/-- The temperatures as the region finds them: a column. -/
theorem temps_read (c : Dev nD) (b : Fin 64) :
    V m c main_v0 (ix2 b 0 : S64x1.Idx) = m ((c : Thread nD τ).loc main_arg1) (ix1 b : S64.Idx) := by
  have e : V m c main_v0 = shapeCast S64x1 (m ((c : Thread nD τ).loc main_arg1)) shapeCasts_S64_S64x1 := by
    unfold V V0
    after_reads_simp
    rfl
  rw [e]
  exact column_read _ b

/-- The row offsets as the region finds them: a column of the rows' first numbers. -/
theorem offsets_read (c : Dev nD) (b : Fin 64) :
    V m c main_v4 (ix2 b 0 : S64x1.Idx) = BitVec.ofNat 32 b.val * 1000000#32 := by
  have e : V m c main_v4 = shapeCast S64x1 (muli (iotaInDim S64 32 0)
      (broadcastInDim S64 ![] bcast_S_S64 (constantI S_ 32 1000000#32))) shapeCasts_S64_S64x1 := by
    unfold V V0
    after_reads_simp
    rfl
  rw [e]
  exact (column_read _ b).trans rfl

/-- A point's coordinate is its number. -/
theorem coord_eq : ∀ t : Fin cfg0.N, (grid0.coords t 0).val = t.val :=
  (by decide +kernel : ∀ t : Fin grid0.N, (grid0.coords t 0).val = t.val)

/-- Each window's block index at a point. -/
theorem index_0 : ∀ t : Fin cfg0.N, win0_0.index t = ![0, 0] :=
  (by decide +kernel : ∀ t : Fin grid0.N, win0_0.index t = ![0, 0])
theorem index_1 : ∀ t : Fin cfg0.N, win0_1.index t = ![0, 0] :=
  (by decide +kernel : ∀ t : Fin grid0.N, win0_1.index t = ![0, 0])
theorem index_2 : ∀ t : Fin cfg0.N, win0_2.index t = ![0, (grid0.coords t 0).val] :=
  (by decide +kernel : ∀ t : Fin grid0.N, win0_2.index t = ![0, (grid0.coords t 0).val])

/-- The logits' fetch moves every lane inside the array. -/
theorem moved_lanes : ∀ t : Fin cfg0.N, win0_2.xsize (grid0.coords t) 0 = 64
    ∧ min 8192 (1000000 - 8192 * (grid0.coords t 0).val) ≤ win0_2.xsize (grid0.coords t) 1 :=
  (by decide +kernel : ∀ t : Fin grid0.N, win0_2.xsize (grid0.coords t) 0 = 64
    ∧ min 8192 (1000000 - 8192 * (grid0.coords t 0).val) ≤ win0_2.xsize (grid0.coords t) 1)

/-- The temperatures' block is the temperatures. -/
theorem iblk_0 (c : Dev nD) (t : Fin cfg0.N) (b : Fin 64) :
    iblk m c 0 t (ix2 b 0 : S64x1.Idx) = m ((c : Thread nD τ).loc main_arg1) (ix1 b : S64.Idx) := by
  rw [← temps_read m c b]
  blk_simp [iblk]
  congr 1
  blk_ext [index_0 t]

/-- The row offsets' block is the rows' first numbers. -/
theorem iblk_1 (c : Dev nD) (t : Fin cfg0.N) (b : Fin 64) :
    iblk m c 1 t (ix2 b 0 : S64x1.Idx) = BitVec.ofNat 32 b.val * 1000000#32 := by
  rw [← offsets_read m c b]
  blk_simp [iblk]
  congr 1
  blk_ext [index_1 t]

/-- The logits' buffer holds the point's logits wherever they lie in the array. -/
theorem iblk_2 (c : Dev nD) (t : Fin cfg0.N) (d : S64x8192.Idx → Elt F .f32) (b : Fin 64) (l : Fin 8192)
    (h : 8192 * (grid0.coords t 0).val + l.val < 1000000) :
    win0_2.fill (grid0.coords t) d (iblk m c 2 t) (ix2 b l : S64x8192.Idx)
      = m ((c : Thread nD τ).loc main_arg0) (ix2 b ⟨8192 * (grid0.coords t 0).val + l.val, h⟩ : S64x1000000.Idx) := by
  obtain ⟨h0, h1⟩ := moved_lanes t
  have hm : win0_2.moved (grid0.coords t) (ix2 b l : S64x8192.Idx) = true := (win0_2.moved_iff _ _).mpr fun a => by
    fin_cases a
    · show b.val < win0_2.xsize (grid0.coords t) 0
      rw [h0]; exact b.isLt
    · show l.val < win0_2.xsize (grid0.coords t) 1
      have := l.isLt
      omega
  unfold Pipeline.Window.fill
  rw [dif_pos hm, ← V_main_arg0 m c]
  blk_simp [iblk]
  congr 1
  blk_ext [index_2 t]
  exact congrArg (· + l.val) (Nat.mul_comm _ _)

/-- A point's blocks are the arguments' there, at the ideal values. -/
theorem blocks (m : (ℓ : Loc nD τ sig) → Buf (Elt Ideal) ℓ) (c : Dev nD) (t : Fin cfg0.N) (d : S64x8192.Idx → Elt Ideal .f32) :
    Blocks (m ((c : Thread nD τ).loc main_arg0)) (m ((c : Thread nD τ).loc main_arg1)) (grid0.coords t)
      (iblk m c 0 t) (iblk m c 1 t) (win0_2.fill (grid0.coords t) d (iblk m c 2 t)) where
  temps := iblk_0 m c t
  offsets := iblk_1 m c t
  logits := iblk_2 m c t d

end Cert.KernelIdeal.Hand

end
-- ==== Proof.Run.lean ====
module

public import proofs.«01_k».proof.Proof.Blocks

@[expose] public section

/-!
# The kernel's run at the ideal values

The two scratch buffers hold, before each point but the first, what sixteen strides per earlier point leave; the last
point's choice is each row's first largest score, and the line after the region returns it.
-/

noncomputable section

namespace Cert.KernelIdeal.Hand

open Cert.KernelIdeal Cert.KernelIdeal.Gen
open Idealize.ShloMosaic hiding ix1 ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-! ## What the kernel returns -/

/-- The logits, as launched. -/
abbrev logits (c : Dev nD) : S64x1000000.Idx → EReal := m ((c : Thread nD τ).loc main_arg0)
/-- The temperatures, as launched. -/
abbrev temps (c : Dev nD) : S64.Idx → EReal := m ((c : Thread nD τ).loc main_arg1)

/-- Row `b`'s token: the first place of the row's largest score. -/
def token (c : Dev nD) (b : Fin 64) : BitVec 32 :=
  BitVec.ofNat 32 (Classical.epsilon (Spec.First (rowScores (logits m c) (temps m c) b))).val

/-- Any first place of the row's largest score is the row's token. -/
theorem token_of_first (c : Dev nD) (b : Fin 64) (r : Fin 1000000)
    (h : Spec.First (rowScores (logits m c) (temps m c) b) r) : BitVec.ofNat 32 r.val = token m c b := by
  unfold token
  rw [Spec.First.unique h (Classical.epsilon_spec ⟨r, h⟩)]

/-! ## The proof data -/

/-- The scratch after `n` points, and the generator's register. -/
def scratch (c : Dev nD) (n : ℕ) : sProp 𝕄 :=
  iprop((∃ (M : S64x512.Idx → Elt Ideal .f32) (I : S64x512.Idx → Elt Ideal .i32),
      owns (c : Thread nD τ) (Memref.whole cc0_scratch0) fullShare M
        ∗ owns (c : Thread nD τ) (Memref.whole cc0_scratch1) fullShare I
        ∗ ⌜0 < n → AllHeld (logits m c) (temps m c) (16 * n) M I⌝) ∗ ∃ r, prngReg c r)

/-- The proof data on core `c`: the two whole input windows keep their block, the logits' window its block on the part
    inside the array; the output window ends at the tokens; the scratch as `scratch` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, _⟩ => fun j : S64x1.Idx => token m c (j 0)
  Φ t := scratch m c t.val
  q _ := fullShare
  owed _ := 0

/-- The body finds the temperatures' block in window 0's buffer. -/
theorem before_0 (c : Dev nD) (t : Fin cfg0.N) (d) : (dats m 0 c).before 0 t d = iblk m c 0 t :=
  before0_0_of m (dats m 0 c) rfl (fun _ => rfl) t d
/-- The body finds the row offsets' block in window 1's buffer. -/
theorem before_1 (c : Dev nD) (t : Fin cfg0.N) (d) : (dats m 0 c).before 1 t d = iblk m c 1 t :=
  before0_1_of m (dats m 0 c) rfl (fun _ => rfl) t d
/-- The body finds in window 2's buffer the logits' block just fetched, and anything past the array's end. -/
theorem before_2 (c : Dev nD) (t : Fin cfg0.N) (d) :
    (dats m 0 c).before 2 t d = win0_2.fill (grid0.coords t) d (iblk m c 2 t) := by
  unfold Dat.before; rw [if_pos (fetch0_2 t)]; rfl

/-- The region's scratch, buffer by buffer. -/
theorem phi_eq (c : Dev nD) :
    (Pipeline.ΦA spec0 c : sProp 𝕄)
      = iprop(((∃ X, owns (c : Thread nD τ) (Memref.whole cc0_scratch0) fullShare X)
          ∗ (∃ X, owns (c : Thread nD τ) (Memref.whole cc0_scratch1) fullShare X)) ∗ ∃ r, prngReg c r) := by
  unfold Pipeline.ΦA; rw [scopedRest0_eq]; simp only [owns_whole]; try rfl

/-- Before the first point the scratch holds anything. -/
theorem scratch_start (c : Dev nD) : (Pipeline.ΦA spec0 c : sProp 𝕄) ⊢ scratch m c 0 := by
  rw [phi_eq]
  unfold scratch
  iintro ⟨⟨⟨%M, H5⟩, ⟨%I, H6⟩⟩, Hg⟩
  isplitl [H5 H6]
  · iexists M, I
    isplitl [H5]; · iexact H5
    isplitl [H6]; · iexact H6
    ipureintro
    exact fun h => absurd h (lt_irrefl 0)
  iexact Hg

/-- What the scratch holds may be forgotten. -/
theorem scratch_end (c : Dev nD) (n : ℕ) : scratch m c n ⊢ (Pipeline.ΦA spec0 c : sProp 𝕄) := by
  rw [phi_eq]
  unfold scratch
  iintro ⟨⟨%M, %I, H5, H6, -⟩, Hg⟩
  isplitl [H5 H6]
  · isplitl [H5]
    · iexists M; iexact H5
    iexists I; iexact H6
  iexact Hg

/-- A fact of a point's number, at the two ends of the point. -/
theorem at_castSucc {N : ℕ} {α : Sort _} (S : ℕ → α) (t : Fin N) : S t.castSucc.val = S t.val := rfl
theorem at_succ {N : ℕ} {α : Sort _} (S : ℕ → α) (t : Fin N) : S t.succ.val = S (t.val + 1) := rfl

/-- The body stores into the output at the last point only. -/
theorem last_iff : ∀ t : Fin cfg0.N, k0_cond1 (grid0.coords t) = 1#1 ↔ t.val = 122 :=
  (by decide +kernel : ∀ t : Fin grid0.N, k0_cond1 (grid0.coords t) = 1#1 ↔ t.val = 122)

/-- The body table's row at the point is the body as the generated points spell it. -/
theorem defs₀_row (t : Fin cfg0.N) : defs₀ (F := Ideal) .tc cfg0.body (cfg0.bodyArgs t (cfg0.slots t)) = bodyAt0 t := by
  unfold defs₀; rw [Defs.onTc_tc]

/-- What the body leaves in the output's buffer: at the last point the tokens, before it what it found. -/
def leaves3 (c : Dev nD) (t : Fin cfg0.N) : sProp 𝕄 :=
  match cfg0.idle 3 (cfg0.grid.coords t) with
  | true =>
    match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- At the last point. -/
theorem leaves3_last (c : Dev nD) (t : Fin cfg0.N) (h : t.val = 122) :
    leaves3 m c t = owns (c : Thread nD τ) (st0_3 t) fullShare ((dats m 0 c).after 3 t) := by
  have e : cfg0.idle 3 (cfg0.grid.coords t) = false := by
    show (!(k0_cond1 (grid0.coords t) == 1#1)) = false
    rw [(last_iff t).mpr h]; rfl
  unfold leaves3; rw [e]

/-- At every point before it. -/
theorem leaves3_before (c : Dev nD) (t : Fin cfg0.N) (h : ¬ t.val = 122) :
    leaves3 m c t = iprop(∃ d, owns (c : Thread nD τ) (st0_3 t) fullShare ((dats m 0 c).before 3 t d)) := by
  have e : cfg0.idle 3 (cfg0.grid.coords t) = true := by
    show (!(k0_cond1 (grid0.coords t) == 1#1)) = true
    rw [beq_eq_false_iff_ne.mpr fun e => h ((last_iff t).mp e)]; rfl
  have f : (cfg0.win 3).flush t = false := by
    rw [Bool.eq_false_iff]
    intro e
    have := (flush0_3 t).mp e
    have ht : t.val < 123 := N_0 ▸ t.isLt
    omega
  unfold leaves3; rw [e, f]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the body returns with at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (∃ d, owns (c : Thread nD τ) (st0_2 t) fullShare (win0_2.fill (grid0.coords t) d (win0_2.cut (grid0.coords t)
        (win0_2.fill (grid0.coords t) (fun _ => Classical.arbitrary _) (iblk m c 2 t)))))
    ∗ leaves3 m c t)

/-- What a point leaves in the scratch. -/
theorem point_scratch (c : Dev nD) (t : Fin cfg0.N) (d : S64x8192.Idx → Elt Ideal .f32)
    (M : S64x512.Idx → Elt Ideal .f32) (I : S64x512.Idx → Elt Ideal .i32)
    (h : 0 < t.val → AllHeld (logits m c) (temps m c) (16 * t.val) M I) :
    AllHeld (logits m c) (temps m c) (16 * (t.val + 1))
      (carry (F := Ideal) (grid0.coords t) (iblk m c 0 t) (iblk m c 1 t) (win0_2.fill (grid0.coords t) d (iblk m c 2 t))
        (k0_pay50 (F := Ideal) (grid0.coords t) M, k0_pay51 (F := Ideal) (grid0.coords t) I) 16).1
      (carry (F := Ideal) (grid0.coords t) (iblk m c 0 t) (iblk m c 1 t) (win0_2.fill (grid0.coords t) d (iblk m c 2 t))
        (k0_pay50 (F := Ideal) (grid0.coords t) M, k0_pay51 (F := Ideal) (grid0.coords t) I) 16).2 := by
  have := point_held (blocks m c t d) M I (by rw [coord_eq]; exact h)
  rw [coord_eq] at this
  exact this

/-- The last point's choice is the tokens. -/
theorem choice_tokens (c : Dev nD) (M : S64x512.Idx → Elt Ideal .f32) (I : S64x512.Idx → Elt Ideal .i32)
    (h : AllHeld (logits m c) (temps m c) 1968 M I) :
    k0_pay1 (F := Ideal) M I = fun j : S64x1.Idx => token m c (j 0) := by
  funext j
  obtain ⟨b, rfl⟩ : ∃ b : Fin 64, j = ix2 b 0 := ⟨j 0, funext fun a => by
    fin_cases a
    · rfl
    · exact Fin.ext (Nat.lt_one_iff.mp (j 1).isLt)⟩
  obtain ⟨r, hr, e⟩ := pay1_first M I b _ (h b)
  rw [e, token_of_first m c b r hr]

/-- The body at the point, between its two ends. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = scratch m c (t.val + 1) from at_succ (scratch m c) t,
    show (dats m 0 c).owesAt () t.succ = (dats m 0 c).owesAt () t.castSucc from rfl,
    show (dats m 0 c).Φ t.castSucc = scratch m c t.val from at_castSucc (scratch m c) t]
  unfold scratch
  iintro ⟨⟨⟨%M, %I, H5, H6, %hMI⟩, Hg⟩, HO, ⟨%d0, H0⟩, ⟨%d1, H1⟩, ⟨%d2, H2⟩, ⟨%d3, H3⟩⟩
  rw [before_0, before_1, before_2]
  have hS := point_scratch m c t d2 M I hMI
  iapply (body_run c (grid0.coords t) _ _ _ _ _ _ _ _ _ _ _ _ (iblk m c 0 t) (iblk m c 1 t)
    (win0_2.fill (grid0.coords t) d2 (iblk m c 2 t)) ((dats m 0 c).before 3 t d3) M I _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6 Hg]
  · isplitl [H5 H6]
    · iexists _, _
      isplitl [H5]; · iexact H5
      isplitl [H6]; · iexact H6
      ipureintro
      exact fun _ => hS
    iexact Hg
  isplitl [HO]; · iexact HO
  isplitl [H0]; · iexact H0
  isplitl [H1]; · iexact H1
  isplitl [H2]
  · iexists d2
    rw [win0_2.cut_fill]; iexact H2
  by_cases ht : t.val = 122
  · rw [leaves3_last m c t ht, if_pos ((last_iff t).mpr ht)]
    rw [ht] at hS
    rw [choice_tokens m c _ _ hS]
    iexact H3
  · rw [leaves3_before m c t ht, if_neg (fun e => ht ((last_iff t).mp e))]
    iexists d3
    iexact H3

/-- The library's body obligation. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

/-- The output's array ends at the tokens. -/
theorem out_final (c : Dev nD) : (dats m 0 c).arrAt 3 cfg0.N = fun j : S64x1.Idx => token m c (j 0) :=
  (dats m 0 c).arrAt_eq_of_after_last 3 ⟨122, (by decide +kernel : 122 < grid0.N)⟩ (by decide +kernel) _ fun _ => rfl

/-- The line after the region returns the tokens. -/
theorem result_final (c : Dev nD) :
    Pipeline.afterTail₀ cfgs (dats m) 0 (V0 m) [hostOps1] c main_v6 = fun b : S64.Idx => token m c (b 0) := by
  unfold Pipeline.afterTail₀
  have e : Pipeline.withArrays (cfgs 0).spec c (V0 m c) (fun w => (dats m 0 c).arrAt w (cfgs 0).N) (Proc.devRef .tc main_v5)
      = fun j : S64x1.Idx => token m c (j 0) :=
    (Pipeline.withArrays_arr (cfgs 0).spec (by decide) c (V0 m c) (fun w => (dats m 0 c).arrAt w (cfgs 0).N) 3).trans
      (out_final m c)
  generalize Pipeline.withArrays (cfgs 0).spec c (V0 m c) (fun w => (dats m 0 c).arrAt w (cfgs 0).N) = W at e ⊢
  have r : StableHlo.after [hostOps1].flatten W (Proc.devRef .tc main_v6)
      = shapeCast S64 (W (Proc.devRef .tc main_v5)) shapeCasts_S64x1_S64 := by
    after_reads_simp
    rfl
  rw [r, e]
  funext b
  refine (shapeCast_apply _ _ b (ix2 (b 0) 0) ?_).trans rfl
  rw [Shape.rowMajor_val_one, Shape.rowMajor_val_two]
  show (b 0).val * 1 + 0 = (b 0).val
  omega

-- the launch theorem's implicit arguments are found by unifying its conclusion with this statement
set_option backward.isDefEq.respectTransparency.types false in
/-- Every run of @main terminates with the tokens in its result, the argument arrays as they were and every counter at
    zero. -/
theorem run_main :
    θ_run defs (onTc (τ := τ) (main (F := Ideal))) (s₀ m ρ) (fun r => (∀ c : Dev nD,
      r.2.mem ((c : Thread nD τ).loc main_v6) = (fun b : S64.Idx => token m c (b 0))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := fun c => scratch_start m c)
    (hout := fun c => scratch_end m c _)
    (hQ' := fun r h => ⟨fun c => ⟨
      (h.1.rest_eq c main_v6 (Pipeline.mem_restRefs_of main_v6 (by decide) (by decide))).trans (result_final m c),
      (h.1.in_eq c 2 rfl).trans (V_main_arg0 m c),
      (h.1.rest_eq c main_arg1 (Pipeline.mem_restRefs_of main_arg1 (by decide) (by decide))).trans (W_main_arg1 m (dats m) c)⟩,
      h.2⟩)

end Cert.KernelIdeal.Hand

end
-- ==== Proof.RefRun.lean ====
module

public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

set_option maxRecDepth 100000

/-!
# The reference's run

The reference is a straight line of host operations, some of them inside module-local functions.  Here the line is
read off the printed program, function by function, and the whole program is run: every buffer ends at the
operations' results folded over the launch contents.
-/

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The programs of this module: a TensorCore's straight-line code over the reference's buffers. -/
abbrev Line (F : FTy → Type) [FloatOps F] : Type _ :=
  Prog (TpuEff nD τ sig (Elt F) (Pipeline.Sig Λ₀ (Fin 0) fun p => (pcfgs (F := F) p).Adm) .tc) PUnit

/-- A straight line followed by a straight line is one. -/
theorem isSeq_append {p k : Line F} {l₁ l₂ : List (HloOp τ sig (Elt F))}
    (hp : IsSeq p l₁) (hk : IsSeq k l₂) : IsSeq (p >>= fun _ => k) (l₁ ++ l₂) := by
  unfold IsSeq at hp hk ⊢
  rw [hp, hk, seq_append]

/-- A line's last operation. -/
theorem isSeq_last (op : HloOp τ sig (Elt F)) :
    IsSeq (hlo rfl op fun _ => .ret (⟨⟩ : PUnit) : Line F) [op] :=
  IsSeq.cons IsSeq.nil

/-- The select's one operation. -/
def whereOps (a0 : TRef sig ⟨S64, .i1⟩) (a1 a2 : TRef sig ⟨S64, .f32⟩) (φ : fn_where.Bufs) :
    { l : List (HloOp τ sig (Elt F)) // IsSeq (fn_where.body a0 a1 a2 φ) l } :=
  by
    apply Subtype.mk
    unfold fn_where.body
    repeat first
      | with_reducible exact IsSeq.nil
      | with_reducible exact isSeq_last _
      | with_reducible apply IsSeq.cons

/-- The greedy arg-max's operations. -/
def argmaxOps (a0 : TRef sig ⟨S64x1000000, .f32⟩) (φ : fn_argmax.Bufs) :
    { l : List (HloOp τ sig (Elt F)) // IsSeq (fn_argmax.body a0 φ) l } :=
  by
    apply Subtype.mk
    unfold fn_argmax.body
    repeat first
      | with_reducible exact IsSeq.nil
      | with_reducible exact isSeq_last _
      | with_reducible apply IsSeq.cons

/-- The sampled arg-max's operations. -/
def argmaxOps' (a0 : TRef sig ⟨S64x1000000, .f32⟩) (φ : fn_argmax_0.Bufs) :
    { l : List (HloOp τ sig (Elt F)) // IsSeq (fn_argmax_0.body a0 φ) l } :=
  by
    apply Subtype.mk
    unfold fn_argmax_0.body
    repeat first
      | with_reducible exact IsSeq.nil
      | with_reducible exact isSeq_last _
      | with_reducible apply IsSeq.cons

/-- The final select's one operation. -/
def whereOps' (a0 : TRef sig ⟨S64, .i1⟩) (a1 a2 : TRef sig ⟨S64, .i32⟩) (φ : fn_where_1.Bufs) :
    { l : List (HloOp τ sig (Elt F)) // IsSeq (fn_where_1.body a0 a1 a2 φ) l } :=
  by
    apply Subtype.mk
    unfold fn_where_1.body
    repeat first
      | with_reducible exact IsSeq.nil
      | with_reducible exact isSeq_last _
      | with_reducible apply IsSeq.cons

/-- The counter-based generator's operations. -/
def threefryOps (a0 a1 : TRef sig ⟨S_, .i32⟩) (a2 a3 : TRef sig ⟨S64x1000000, .i32⟩) (φ : fn_threefry2x32.Bufs) :
    { l : List (HloOp τ sig (Elt F)) // IsSeq (fn_threefry2x32.body a0 a1 a2 a3 φ) l } :=
  by
    apply Subtype.mk
    unfold fn_threefry2x32.body
    apply isSeq_append
    · unfold fn_threefry2x32.body_part0
      repeat first
        | with_reducible exact IsSeq.nil
        | with_reducible exact isSeq_last _
        | with_reducible apply IsSeq.cons
    apply isSeq_append
    · unfold fn_threefry2x32.body_part1
      repeat first
        | with_reducible exact IsSeq.nil
        | with_reducible exact isSeq_last _
        | with_reducible apply IsSeq.cons
    apply isSeq_append
    · unfold fn_threefry2x32.body_part2
      repeat first
        | with_reducible exact IsSeq.nil
        | with_reducible exact isSeq_last _
        | with_reducible apply IsSeq.cons
    · unfold fn_threefry2x32.body_part3
      repeat first
        | with_reducible exact IsSeq.nil
        | with_reducible exact isSeq_last _
        | with_reducible apply IsSeq.cons

/-- The whole reference's operations, in order. -/
def mainOps (d : Dev nD) : { l : List (HloOp τ sig (Elt F)) // IsSeq (main d) l } :=
  by
    apply Subtype.mk
    unfold main
    apply isSeq_append
    · unfold main_part0
      repeat first
        | with_reducible exact IsSeq.nil
        | with_reducible exact isSeq_last _
        | with_reducible apply IsSeq.cons
        | with_reducible apply isSeq_append (whereOps _ _ _ _).2
        | with_reducible apply isSeq_append (argmaxOps _ _).2
        | with_reducible apply isSeq_append (threefryOps _ _ _ _ _).2
    · unfold main_part1
      repeat first
        | with_reducible exact IsSeq.nil
        | with_reducible exact isSeq_last _
        | with_reducible apply IsSeq.cons
        | with_reducible apply isSeq_append (whereOps' _ _ _ _).2
        | with_reducible apply isSeq_append (argmaxOps' _ _).2

/-- The signature scopes no buffer, -/
theorem scopedRefs_eq : (Finset.univ.filter fun b : Ref sig .tc => b.isScoped) = ∅ := by decide +kernel

/-- and no semaphore. -/
theorem scopedSems_eq : (Finset.univ.filter fun sm : SemLoc sig => sm.isScoped .tc) = ∅ := by decide

/-- The operations touch TensorCore buffers only, -/
theorem mainOps_sub (d : Dev nD) : (mainOps (F := F) d).1.Forall fun op => op.bufs ⊆ tcRefs τ sig := by
  simp only [mainOps, whereOps, argmaxOps, threefryOps, argmaxOps', whereOps', List.cons_append, List.nil_append,
    List.forall_cons, List.Forall, unary_bufs_sub, binary_bufs_sub, nullary_bufs_sub, ternary_bufs_sub,
    quaternary_bufs_sub, reshape_bufs_sub, and_self, true_and]

/-- and each determines its results. -/
theorem mainOps_fresh (d : Dev nD) : (mainOps (F := F) d).1.Forall fun op => op.fresh = ∅ :=
  forall_fresh_of_map rfl

/-- The reference runs: every buffer ends at the fold of its operations over the launch contents, and every counter
    reads zero. -/
theorem run_main (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b)
        = after (mainOps d).1 (launchContents m d) (Proc.devRef .tc b)) ∧ r.2.sem = fun _ => 0 :=
  (θ_run defs _ _).mono (fun r h => ⟨h, sem_eq_zero_of_no_sems (by rfl) r.2⟩)
    (run_seq scopedRefs_eq scopedSems_eq defs main (fun d => (mainOps d).1) (fun d => (mainOps d).2)
      mainOps_sub m ρ
      (fun d => List.forall_iff_forall_mem.mp (mainOps_fresh d)))

/-- No operation writes an argument: both end as they began. -/
theorem arg0_kept (d : Dev nD) (V : Valuation τ sig (Elt F)) :
    after (mainOps d).1 V (Proc.devRef .tc main_arg0) = V (Proc.devRef .tc main_arg0) := by
  after_reads_simp
theorem arg1_kept (d : Dev nD) (V : Valuation τ sig (Elt F)) :
    after (mainOps d).1 V (Proc.devRef .tc main_arg1) = V (Proc.devRef .tc main_arg1) := by
  after_reads_simp

end Cert.ReferenceIdeal.Hand
-- ==== Proof.RefRead.lean ====
module

public import proofs.«01_k».proof.Proof.RefRun
public import proofs.«01_k».proof.Proof.Spec

@[expose] public section

set_option maxRecDepth 100000

/-!
# The reference's random words

The reference's line of operations is cut before each of the generator's five groups of rounds.  Each group is the
specification's group at every position, so the generator's two results, combined, are the specification's word of
the position's row-major number.
-/

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- Operations in two runs, one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The buffers after the first `n` operations. -/
def upTo (d : Dev nD) (n : ℕ) (V : Valuation τ sig (Elt F)) : Valuation τ sig (Elt F) :=
  after ((mainOps d).1.take n) V

/-- After `n + k` operations: the next `k` run from where the first `n` end. -/
theorem upTo_add (d : Dev nD) (n k : ℕ) (V : Valuation τ sig (Elt F)) :
    upTo d (n + k) V = after (((mainOps d).1.drop n).take k) (upTo d n V) := by
  unfold upTo
  rw [List.take_add, after_two]

/-- The whole line: the operations past the first `n` run from where those end. -/
theorem after_eq (d : Dev nD) (n : ℕ) (V : Valuation τ sig (Elt F)) :
    after (mainOps d).1 V = after ((mainOps d).1.drop n) (upTo d n V) := by
  unfold upTo
  rw [← after_two, List.take_append_drop]

/-- The generator's key, word by word, and the third word of its schedule. -/
structure Keyed (V : Valuation τ sig (Elt F)) : Prop where
  k0 : V (Proc.devRef .tc main_v16) = fun _ => 0#32
  k1 : V (Proc.devRef .tc main_v18) = fun _ => 42#32
  k2 : V (Proc.devRef .tc main_call2_v1) = fun _ => 466689008#32

/-- The first word of a pair stored as a vector of two. -/
theorem pair_fst (A B : BitVec 32) : shapeCast S_ (extractStridedSlice S1 ![0]
    (concatenate S2 0 [⟨S1, fun _ => A⟩, ⟨S1, fun _ => B⟩] concatenates_S1_S1_S2_d0) slices_S2_S1_0) shapeCasts_S1_S_
    = fun _ => A := by
  funext i
  have h : i = fun a => a.elim0 := funext fun a => a.elim0
  subst h
  rfl

/-- And the second. -/
theorem pair_snd (A B : BitVec 32) : shapeCast S_ (extractStridedSlice S1 ![1]
    (concatenate S2 0 [⟨S1, fun _ => A⟩, ⟨S1, fun _ => B⟩] concatenates_S1_S1_S2_d0) slices_S2_S1_1) shapeCasts_S1_S_
    = fun _ => B := by
  funext i
  have h : i = fun a => a.elim0 := funext fun a => a.elim0
  subst h
  rfl

/-- The key's high word: the seed shifted right by its whole width. -/
theorem seed_hi : broadcastInDim S1 ![] bcast_S_S1 (id (Host.shrui (constantI S_ 32 42#32) (constantI S_ 32 32#32)))
    = fun _ => 0#32 := by
  funext i
  exact (show IntOp.shrui .host (42#32) (32#32) = 0#32 by decide +kernel)

/-- The key's low word: the seed itself. -/
theorem seed_lo : broadcastInDim S1 ![] bcast_S_S1 (id (andi (constantI S_ 32 42#32) (constantI S_ 32 4294967295#32)))
    = fun _ => 42#32 := by
  funext i
  exact (show IntOp.andi (42#32) (4294967295#32) = 42#32 by decide +kernel)

/-- The key before the first group: zero and the seed. -/
theorem key_0 (d : Dev nD) (V : Valuation τ sig (Elt F)) :
    upTo d 42 V (Proc.devRef .tc main_v16) = fun _ => 0#32 := by
  unfold upTo
  after_reads_simp
  simp (disch := decide) only [readPieces, readUpto, nullary_result', unary_result', binary_result']
  rw [seed_hi, seed_lo]
  exact pair_fst 0#32 42#32
theorem key_1 (d : Dev nD) (V : Valuation τ sig (Elt F)) :
    upTo d 42 V (Proc.devRef .tc main_v18) = fun _ => 42#32 := by
  unfold upTo
  after_reads_simp
  simp (disch := decide) only [readPieces, readUpto, nullary_result', unary_result', binary_result']
  rw [seed_hi, seed_lo]
  exact pair_snd 0#32 42#32

/-- The generator's head, from any buffers: the third word of the schedule and the two words the first group starts
    from, out of the key and the counter's two words. -/
theorem head_k2 (d : Dev nD) (V : Valuation τ sig (Elt F)) :
    after (((mainOps d).1.drop 42).take 7) V (Proc.devRef .tc main_call2_v1)
      = fun i => IntOp.xori (w := 32) (IntOp.xori (w := 32) (V (Proc.devRef .tc main_v16) i) (V (Proc.devRef .tc main_v18) i))
          466688986#32 := by
  after_reads_simp
  rfl
theorem head_x0 (d : Dev nD) (V : Valuation τ sig (Elt F)) (A : BitVec 32)
    (hA : V (Proc.devRef .tc main_v16) = fun _ => A) (i : S64x1000000.Idx) :
    after (((mainOps d).1.drop 42).take 7) V (Proc.devRef .tc main_call2_v3) i
      = IntOp.addi (w := 32) (V (Proc.devRef .tc main_v29) i) A := by
  after_reads_simp
  simp only [hA]
  rfl
theorem head_x1 (d : Dev nD) (V : Valuation τ sig (Elt F)) (A : BitVec 32)
    (hA : V (Proc.devRef .tc main_v18) = fun _ => A) (i : S64x1000000.Idx) :
    after (((mainOps d).1.drop 42).take 7) V (Proc.devRef .tc main_call2_v5) i
      = IntOp.addi (w := 32) (V (Proc.devRef .tc main_v28) i) A := by
  after_reads_simp
  simp only [hA]
  rfl
theorem head_keeps (d : Dev nD) (V : Valuation τ sig (Elt F)) :
    after (((mainOps d).1.drop 42).take 7) V (Proc.devRef .tc main_v16) = V (Proc.devRef .tc main_v16)
    ∧ after (((mainOps d).1.drop 42).take 7) V (Proc.devRef .tc main_v18) = V (Proc.devRef .tc main_v18) := by
  constructor <;> after_reads_simp

/-- The counter's low word at a position. -/
theorem counter_lo (d : Dev nD) (V : Valuation τ sig (Elt F)) (i : S64x1000000.Idx) :
    upTo d 42 V (Proc.devRef .tc main_v28) i
      = BitVec.setWidth 32 (1000000#64 * BitVec.ofNat 64 (i 0).val + 1#64 * BitVec.ofNat 64 (i 1).val) := by
  unfold upTo
  after_reads_simp
  rfl
/-- And its high word. -/
theorem counter_hi (d : Dev nD) (V : Valuation τ sig (Elt F)) (i : S64x1000000.Idx) :
    upTo d 42 V (Proc.devRef .tc main_v29) i
      = BitVec.setWidth 32 ((1000000#64 * BitVec.ofNat 64 (i 0).val + 1#64 * BitVec.ofNat 64 (i 1).val) >>> 32) := by
  unfold upTo
  after_reads_simp
  rfl

/-- The first group, at a position. -/
theorem group_0 (d : Dev nD) (V : Valuation τ sig (Elt F)) (hV : Keyed V) (i : S64x1000000.Idx) :
    ((after (((mainOps d).1.drop 49).take 43) V (Proc.devRef .tc main_call2_v35) i,
      after (((mainOps d).1.drop 49).take 43) V (Proc.devRef .tc main_call2_v39) i) : BitVec 32 × BitVec 32)
      = Spec.group 13 15 26 6 42#32 466689008#32 1#32 (V (Proc.devRef .tc main_call2_v3) i, V (Proc.devRef .tc main_call2_v5) i) := by
  refine Prod.ext ?_ ?_
  all_goals
    after_reads_simp
    simp only [hV.k1, hV.k2]
    rfl

/-- The second group, at a position. -/
theorem group_1 (d : Dev nD) (V : Valuation τ sig (Elt F)) (hV : Keyed V) (i : S64x1000000.Idx) :
    ((after (((mainOps d).1.drop 92).take 43) V (Proc.devRef .tc main_call2_v69) i,
      after (((mainOps d).1.drop 92).take 43) V (Proc.devRef .tc main_call2_v73) i) : BitVec 32 × BitVec 32)
      = Spec.group 17 29 16 24 466689008#32 0#32 2#32 (V (Proc.devRef .tc main_call2_v35) i, V (Proc.devRef .tc main_call2_v39) i) := by
  refine Prod.ext ?_ ?_
  all_goals
    after_reads_simp
    simp only [hV.k0, hV.k2]
    rfl

/-- The third group, at a position. -/
theorem group_2 (d : Dev nD) (V : Valuation τ sig (Elt F)) (hV : Keyed V) (i : S64x1000000.Idx) :
    ((after (((mainOps d).1.drop 135).take 43) V (Proc.devRef .tc main_call2_v103) i,
      after (((mainOps d).1.drop 135).take 43) V (Proc.devRef .tc main_call2_v107) i) : BitVec 32 × BitVec 32)
      = Spec.group 13 15 26 6 0#32 42#32 3#32 (V (Proc.devRef .tc main_call2_v69) i, V (Proc.devRef .tc main_call2_v73) i) := by
  refine Prod.ext ?_ ?_
  all_goals
    after_reads_simp
    simp only [hV.k0, hV.k1]
    rfl

/-- The fourth group, at a position. -/
theorem group_3 (d : Dev nD) (V : Valuation τ sig (Elt F)) (hV : Keyed V) (i : S64x1000000.Idx) :
    ((after (((mainOps d).1.drop 178).take 43) V (Proc.devRef .tc main_call2_v137) i,
      after (((mainOps d).1.drop 178).take 43) V (Proc.devRef .tc main_call2_v141) i) : BitVec 32 × BitVec 32)
      = Spec.group 17 29 16 24 42#32 466689008#32 4#32 (V (Proc.devRef .tc main_call2_v103) i, V (Proc.devRef .tc main_call2_v107) i) := by
  refine Prod.ext ?_ ?_
  all_goals
    after_reads_simp
    simp only [hV.k1, hV.k2]
    rfl

/-- The last group, at a position. -/
theorem group_4 (d : Dev nD) (V : Valuation τ sig (Elt F)) (hV : Keyed V) (i : S64x1000000.Idx) :
    ((after (((mainOps d).1.drop 221).take 43) V (Proc.devRef .tc main_v30_0) i,
      after (((mainOps d).1.drop 221).take 43) V (Proc.devRef .tc main_v30_1) i) : BitVec 32 × BitVec 32)
      = Spec.group 13 15 26 6 466689008#32 0#32 5#32 (V (Proc.devRef .tc main_call2_v137) i, V (Proc.devRef .tc main_call2_v141) i) := by
  refine Prod.ext ?_ ?_
  all_goals
    after_reads_simp
    simp only [hV.k0, hV.k2]
    rfl

/-- The operations of the generator past its head write none of the key's words. -/
theorem keyed_after (d : Dev nD) (n : ℕ) (hn : n ∈ [49, 92, 135, 178]) (V : Valuation τ sig (Elt F)) (hV : Keyed V) :
    Keyed (after (((mainOps d).1.drop n).take 43) V) := by
  simp only [List.mem_cons, List.not_mem_nil, or_false] at hn
  rcases hn with rfl | rfl | rfl | rfl
  all_goals
    constructor
    · after_reads_simp; exact hV.k0
    · after_reads_simp; exact hV.k1
    · after_reads_simp; exact hV.k2

/-- The keys stand before the first group. -/
theorem keyed_49 (d : Dev nD) (V : Valuation τ sig (Elt F)) : Keyed (upTo d 49 V) := by
  rw [upTo_add d 42 7]
  refine ⟨(head_keeps d _).1.trans (key_0 d V), (head_keeps d _).2.trans (key_1 d V), (head_k2 d _).trans ?_⟩
  rw [key_0, key_1]
  funext i
  exact (show IntOp.xori (IntOp.xori (0#32) (42#32)) 466688986#32 = 466689008#32 by decide +kernel)

/-- A position's row-major number. -/
def flat (i : S64x1000000.Idx) : BitVec 32 := BitVec.ofNat 32 (1000000 * (i 0).val + (i 1).val)

/-- The words the first group starts from: zero, and the position's number moved on by the seed. -/
theorem start (d : Dev nD) (V : Valuation τ sig (Elt F)) (i : S64x1000000.Idx) :
    ((upTo d 49 V (Proc.devRef .tc main_call2_v3) i, upTo d 49 V (Proc.devRef .tc main_call2_v5) i) :
      BitVec 32 × BitVec 32) = (0#32, flat i + 42#32) := by
  have h0 : (i 0).val < 64 := (i 0).isLt
  have h1 : (i 1).val < 1000000 := (i 1).isLt
  rw [upTo_add d 42 7, head_x0 d _ _ (key_0 d V), head_x1 d _ _ (key_1 d V), counter_lo, counter_hi]
  refine Prod.ext ?_ ?_
  · show BitVec.setWidth 32 _ + 0#32 = 0#32
    apply BitVec.eq_of_toNat_eq
    simp [BitVec.toNat_add, BitVec.toNat_mul, BitVec.toNat_ushiftRight, Nat.shiftRight_eq_div_pow]
    generalize hx : 1000000 * (i 0).val + (i 1).val = x
    have hlt : x < 64000000 := by omega
    omega
  · show BitVec.setWidth 32 _ + 42#32 = flat i + 42#32
    congr 1
    apply BitVec.eq_of_toNat_eq
    simp [flat, BitVec.toNat_add, BitVec.toNat_mul]

/-- The generator's two results at a position, combined: the position's random word. -/
theorem words_word (d : Dev nD) (V : Valuation τ sig (Elt F)) (i : S64x1000000.Idx) :
    IntOp.xori (w := 32) (upTo d 264 V (Proc.devRef .tc main_v30_0) i) (upTo d 264 V (Proc.devRef .tc main_v30_1) i)
      = Spec.word (flat i) := by
  have E (n k l : ℕ) (h : n + k = l) : after (((mainOps d).1.drop n).take k) (upTo d n V) = upTo d l V := by
    rw [← h, upTo_add]
  have K0 := keyed_49 d V
  have K1 := keyed_after d 49 (by decide) _ K0
  rw [E 49 43 92 rfl] at K1
  have K2 := keyed_after d 92 (by decide) _ K1
  rw [E 92 43 135 rfl] at K2
  have K3 := keyed_after d 135 (by decide) _ K2
  rw [E 135 43 178 rfl] at K3
  have K4 := keyed_after d 178 (by decide) _ K3
  rw [E 178 43 221 rfl] at K4
  have G0 := group_0 d _ K0 i
  have G1 := group_1 d _ K1 i
  have G2 := group_2 d _ K2 i
  have G3 := group_3 d _ K3 i
  have G4 := group_4 d _ K4 i
  rw [E 49 43 92 rfl, start] at G0
  rw [E 92 43 135 rfl, G0] at G1
  rw [E 135 43 178 rfl, G1] at G2
  rw [E 178 43 221 rfl, G2] at G3
  rw [E 221 43 264 rfl, G3] at G4
  unfold Spec.word Spec.rounds
  rw [← G4]
  rfl

end Cert.ReferenceIdeal.Hand
end
-- ==== Proof.RefValue.lean ====
module

public import proofs.«01_k».proof.Proof.RefRead
public import proofs.«01_k».proof.Proof.ArgMax
public import Idealize.ShloMosaic.Lib.ValueIdx
public import Idealize.ShloMosaic.Lib.Pipeline.Value

@[expose] public section

set_option maxRecDepth 100000

/-!
# What the reference returns

Over the extended reals the reference returns, for each row, the first place of the row's largest score.
-/

noncomputable section

namespace Cert.ReferenceIdeal.Hand

open Cert.ReferenceIdeal Cert.ReferenceIdeal.Gen
open Idealize.ShloMosaic Idealize.ShloMosaic.TcCoe Idealize.ShloMosaic.StableHlo Idealize.SL.Sem
open Idealize.ShloMosaic.ValueIdx

section Read

variable {F : FTy → Type} [FloatOps F]

/-- The places an arg-max returns. -/
def places {s t u : Shape} {axes : List (Fin s.rank)} (g : F .f32 × BitVec 32 → F .f32 × BitVec 32 → F .f32 × BitVec 32)
    (x : FVec F s .f32) (y : s.Idx → BitVec 32) (ix : u.Idx → F .f32) (iy : u.Idx → BitVec 32)
    (h : s.ReducesTo axes t) (hu : 0 < u.numel) : t.Idx → BitVec 32 :=
  fun j => (Host.argReduce g x y ix iy h hu j).2

/-- The row-wise arg-max, as both of the reference's choices take it. -/
def argmaxOf (x : FVec F S64x1000000 .f32) : IVec S64 32 :=
  places reducer_argmax_f32_i32 x (iotaInDim S64x1000000 32 1) (constant S_ FTy.f32 4286578688#32)
    (constantI S_ 32 0#32) reducesTo_S64x1000000_S64_d1 h_S_

theorem greedy_read (d : Dev nD) (V : Valuation τ sig (Elt F)) :
    upTo d 42 V (Proc.devRef .tc main_v7) = argmaxOf (V (Proc.devRef .tc main_arg0)) := by
  unfold upTo
  after_reads_simp
  rfl

/-- The temperatures with one in the place of zero. -/
def safeOf (t : FVec F S64 .f32) : FVec F S64 .f32 :=
  select (cmpf CmpFPredicate.oeq t (broadcastInDim S64 ![] bcast_S_S64 (constant S_ FTy.f32 0#32)))
    (broadcastInDim S64 ![] bcast_S_S64 (constant S_ FTy.f32 1065353216#32)) t

/-- The scaled logits, as the line computes them. -/
theorem scaled_read (d : Dev nD) (V : Valuation τ sig (Elt F)) :
    upTo d 42 V (Proc.devRef .tc main_v6)
      = Host.divf (V (Proc.devRef .tc main_arg0))
        (broadcastInDim S64x1000000 ![0, 1] bcast_S64x1_S64x1000000_0_1 (broadcastInDim S64x1 ![0] bcast_S64_S64x1_0 (safeOf (V (Proc.devRef .tc main_arg1))))) := by
  unfold upTo
  after_reads_simp
  rfl

/-- The Gumbel noise of an array of random words. -/
def noiseOf (w : IVec S64x1000000 32) : FVec F S64x1000000 .f32 :=
  Host.negf (Host.log (Host.negf (Host.log
    (maximumf (broadcastInDim S64x1000000 ![] bcast_S_S64x1000000 (constant S_ FTy.f32 8388608#32))
      (addf
        (mulf
          (subf
            (bitcastToFloat FTy.f32
              (ori (Host.shrui w (broadcastInDim S64x1000000 ![] bcast_S_S64x1000000 (constantI S_ 32 9#32)))
                (broadcastInDim S64x1000000 ![] bcast_S_S64x1000000 (constantI S_ 32 1065353216#32))))
            (broadcastInDim S64x1000000 ![] bcast_S_S64x1000000 (constant S_ FTy.f32 1065353216#32)))
          (broadcastInDim S64x1000000 ![] bcast_S_S64x1000000 (constant S_ FTy.f32 1065353216#32)))
        (broadcastInDim S64x1000000 ![] bcast_S_S64x1000000 (constant S_ FTy.f32 8388608#32)))))))

/-- The result, from the buffers the generator leaves. -/
theorem result_read (d : Dev nD) (V : Valuation τ sig (Elt F)) :
    after ((mainOps d).1.drop 264) V (Proc.devRef .tc main_v53) =
    select (cmpf CmpFPredicate.oeq (V (Proc.devRef .tc main_arg1)) (broadcastInDim S64 ![] bcast_S_S64 (constant S_ FTy.f32 0#32)))
      (V (Proc.devRef .tc main_v7))
      (argmaxOf (addf (noiseOf (xori (V (Proc.devRef .tc main_v30_0)) (V (Proc.devRef .tc main_v30_1)))) (V (Proc.devRef .tc main_v6)))) := by
  after_reads_simp
  simp -implicitDefEqProofs only [TRef.toBuf, TRef.ofBuf, cast_cast, cast_eq]
  unfold noiseOf argmaxOf places
  with_reducible rfl
/-- Past its first part the line writes neither the scaled logits, nor the greedy choice, nor the temperatures, until the
    generator is done. -/
theorem upTo_kept (d : Dev nD) (V : Valuation τ sig (Elt F)) :
    upTo d 264 V (Proc.devRef .tc main_v6) = upTo d 42 V (Proc.devRef .tc main_v6)
      ∧ upTo d 264 V (Proc.devRef .tc main_v7) = upTo d 42 V (Proc.devRef .tc main_v7)
      ∧ upTo d 264 V (Proc.devRef .tc main_arg1) = V (Proc.devRef .tc main_arg1) := by
  have e : upTo d 264 V = after (((mainOps d).1.drop 42).take 222) (upTo d 42 V) := upTo_add d 42 222 V
  have h1 : upTo d 42 V (Proc.devRef .tc main_arg1) = V (Proc.devRef .tc main_arg1) := by
    unfold upTo; after_reads_simp
  rw [e, ← h1]
  generalize upTo d 42 V = W
  refine ⟨?_, ?_, ?_⟩ <;> after_reads_simp

end Read

/-- The arg-max's combiner keeps the better of two pairs. -/
theorem reducer_beats (a b : EReal × BitVec 32) :
    (reducer_argmax_f32_i32 (F := Ideal) a b = a ∨ reducer_argmax_f32_i32 (F := Ideal) a b = b)
      ∧ Spec.Beats (reducer_argmax_f32_i32 (F := Ideal) a b) a
      ∧ Spec.Beats (reducer_argmax_f32_i32 (F := Ideal) a b) b := by
  obtain ⟨a₁, a₂⟩ := a
  obtain ⟨b₁, b₂⟩ := b
  have hv : reducer_argmax_f32_i32 (F := Ideal) (a₁, a₂) (b₁, b₂)
      = (if b₁ < a₁ then a₁ else b₁, if b₁ < a₁ ∨ a₁ = b₁ ∧ a₂.toInt < b₂.toInt then a₂ else b₂) := by
    have hlt : BitVec.slt a₂ b₂ = decide (a₂.toInt < b₂.toInt) := rfl
    by_cases h : b₁ < a₁ <;> by_cases h' : a₁ = b₁ <;> by_cases h'' : a₂.toInt < b₂.toInt <;>
      simp [reducer_argmax_f32_i32, Ideal.cmpf_def, Ideal.cmp, Scalar.select, IntOp.ori, IntOp.andi, IntOp.cmpi, h, h', h'',
        hlt]
  rw [hv]
  by_cases h : b₁ < a₁
  · simp only [h, true_or, if_true]
    exact ⟨by simp, .refl _, .inl h⟩
  · by_cases h' : a₁ = b₁
    · by_cases h'' : a₂.toInt < b₂.toInt
      · subst h'
        simp [h'']
        exact ⟨.refl _, .inr ⟨rfl, le_of_lt h''⟩⟩
      · subst h'
        simp [h'']
        exact ⟨.inr ⟨rfl, not_lt.mp h''⟩, .refl _⟩
    · simp [h, h']
      exact ⟨.inl (lt_of_le_of_ne (not_lt.mp h) h'), .refl _⟩

/-- A position lies in row `b`'s fiber when its row is `b`. -/
theorem drop_row (b : S64.Idx) (i : S64x1000000.Idx) : reducesTo_S64x1000000_S64_d1.drop i = b ↔ i 0 = b 0 := by
  have h0 : (reducesTo_S64x1000000_S64_d1.drop i 0).val = (i 0).val :=
    Shape.ReducesTo.drop_apply_val_of_eq _ i 0 0 (by decide)
  constructor
  · rintro rfl; exact Fin.ext h0.symm
  · intro h
    funext a
    fin_cases a
    exact Fin.ext (h0.trans (congrArg Fin.val h))

/-- The pairs an arg-max over row `b` folds: each place's value and the place. -/
theorem mem_fiber (x : S64x1000000.Idx → EReal) (b : S64.Idx) (p : EReal × BitVec 32) :
    p ∈ Host.argReduceFiber x (iotaInDim S64x1000000 32 1) reducesTo_S64x1000000_S64_d1 b
      ↔ ∃ l : Fin 1000000, p = (x (ix2 (b 0) l), BitVec.ofNat 32 l.val) := by
  unfold Host.argReduceFiber
  rw [List.mem_map]
  constructor
  · rintro ⟨n, hn, rfl⟩
    rw [List.mem_filter] at hn
    have hn := of_decide_eq_true hn.2
    generalize S64x1000000.rowMajor.symm n = i at hn ⊢
    rw [drop_row] at hn
    refine ⟨i 1, Prod.ext ?_ rfl⟩
    show x i = x (ix2 (b 0) (i 1))
    congr 1
    funext a
    fin_cases a
    · exact hn
    · rfl
  · rintro ⟨l, rfl⟩
    refine ⟨S64x1000000.rowMajor (ix2 (b 0) l), ?_, ?_⟩
    · rw [List.mem_filter]
      refine ⟨List.mem_finRange _, decide_eq_true ?_⟩
      rw [Equiv.symm_apply_apply, drop_row]
    · rw [Equiv.symm_apply_apply]
      rfl

/-- The value an arg-max starts from. -/
theorem ofBits_bot : Ideal.ofBits .f32 0xFF800000#32 = ⊥ := by
  simp [Ideal.ofBits, Ideal.ieee]

/-- The pair an arg-max starts from. -/
theorem init_eq (z : S_.Idx) : (constant (F := Ideal) S_ .f32 4286578688#32 z, constantI S_ 32 0#32 z)
    = ((⊥, 0#32) : EReal × BitVec 32) :=
  Prod.ext ofBits_bot rfl

/-- An arg-max whose combiner keeps the better of two pairs, started from the least value at place zero, ends at the first
    place of the largest value of the fiber it folds. -/
theorem arg_first {s t u : Shape} {axes : List (Fin s.rank)} {N : ℕ} (hN : 0 < N) (hN' : N ≤ 2 ^ 31)
    (g : Ideal .f32 × BitVec 32 → Ideal .f32 × BitVec 32 → Ideal .f32 × BitVec 32)
    (hg : ∀ a b : EReal × BitVec 32, (g a b = a ∨ g a b = b) ∧ Spec.Beats (g a b) a ∧ Spec.Beats (g a b) b)
    (x : FVec Ideal s .f32) (y : s.Idx → BitVec 32) (ix : u.Idx → Ideal .f32) (iy : u.Idx → BitVec 32)
    (h : s.ReducesTo axes t) (hu : 0 < u.numel) (j : t.Idx) (f : Fin N → EReal)
    (hi : (ix (Shape.Idx.first hu), iy (Shape.Idx.first hu)) = ((⊥, 0#32) : EReal × BitVec 32))
    (hL : ∀ p : EReal × BitVec 32, p ∈ Host.argReduceFiber x y h j ↔ ∃ l : Fin N, p = (f l, BitVec.ofNat 32 l.val)) :
    ∃ r, Spec.First f r ∧ places g x y ix iy h hu j = BitVec.ofNat 32 r.val := by
  obtain ⟨r, hr, e⟩ := Spec.foldl_first hN hN' f g hg (Host.argReduceFiber x y h j) hL
  refine ⟨r, hr, ?_⟩
  unfold places
  rw [Ideal.argReduce_eq_reduce2, Host.reduce2_eq_foldl_fiber, hi]
  exact e

/-- A row's arg-max is the first place of its largest value. -/
theorem argmax_first (x : FVec Ideal S64x1000000 .f32) (b : S64.Idx) :
    ∃ r, Spec.First (fun l : Fin 1000000 => x (ix2 (b 0) l)) r
      ∧ argmaxOf (F := Ideal) x b = BitVec.ofNat 32 r.val :=
  arg_first (by norm_num) (by norm_num) (reducer_argmax_f32_i32 (F := Ideal)) reducer_beats x
    (iotaInDim S64x1000000 32 1) (constant S_ FTy.f32 4286578688#32) (constantI S_ 32 0#32) reducesTo_S64x1000000_S64_d1 h_S_ b
    (fun l : Fin 1000000 => x (ix2 (b 0) l)) (init_eq (Shape.Idx.first h_S_)) (mem_fiber x b)

/-- The constants of the reference's own operations. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee]
  norm_cast
  norm_num

/-- The noise at a position is the Gumbel variate of its word. -/
theorem noise_apply (w : IVec S64x1000000 32) (i : S64x1000000.Idx) :
    noiseOf (F := Ideal) w i = Spec.gumbel (w i) := by
  have e : noiseOf (F := Ideal) w i = -Ideal.log (-Ideal.log (max (Ideal.ofBits .f32 0x00800000#32)
      ((Ideal.ofBits .f32 (w i >>> 9 ||| 0x3F800000#32) - Ideal.ofBits .f32 0x3F800000#32) * Ideal.ofBits .f32 0x3F800000#32
        + Ideal.ofBits .f32 0x00800000#32))) := rfl
  rw [e]
  unfold Spec.gumbel Spec.uniform
  generalize Ideal.ofBits .f32 (w i >>> 9 ||| 0x3F800000#32) = u
  rw [ofBits_one, mul_one]

/-- The temperatures, one in the place of zero, at a row. -/
theorem safe_apply (t : FVec Ideal S64 .f32) (b : S64.Idx) : safeOf (F := Ideal) t b = if t b = 0 then (1 : EReal) else t b := by
  have e : safeOf (F := Ideal) t b = Scalar.select (Ideal.cmp .oeq (t b) (Ideal.ofBits .f32 0x00000000#32))
    (Ideal.ofBits .f32 0x3F800000#32) (t b) := rfl
  rw [e, ofBits_zero, ofBits_one]
  by_cases h : t b = 0 <;> simp [Scalar.select, Ideal.cmp, h]

/-- The scaled logits at a position. -/
theorem scaled_apply (x : FVec Ideal S64x1000000 .f32) (t : FVec Ideal S64 .f32) (b : S64.Idx) (l : Fin 1000000) :
    Host.divf x (broadcastInDim S64x1000000 ![0, 1] bcast_S64x1_S64x1000000_0_1
      (broadcastInDim S64x1 ![0] bcast_S64_S64x1_0 (safeOf (F := Ideal) t))) (ix2 (b 0) l)
      = Ideal.div (x (ix2 (b 0) l)) (if t b = 0 then (1 : EReal) else t b) := by
  rw [← safe_apply t b]
  have e : broadcastInDim S64x1000000 ![0, 1] bcast_S64x1_S64x1000000_0_1
      (broadcastInDim S64x1 ![0] bcast_S64_S64x1_0 (safeOf (F := Ideal) t)) (ix2 (b 0) l) = safeOf (F := Ideal) t b := by
    rw [broadcastInDim_apply _ _ _ _ (ix2 (b 0) 0 : S64x1.Idx) (fun a => by fin_cases a <;> rfl),
      broadcastInDim_apply _ _ _ _ b (fun a => by fin_cases a <;> rfl)]
  show Ideal.div (x (ix2 (b 0) l)) _ = _
  rw [e]

/-- A row's scores: each logit's, at the row's temperature and under its position's random word. -/
def scores (x : S64x1000000.Idx → EReal) (t : S64.Idx → EReal) (b : S64.Idx) (l : Fin 1000000) : EReal :=
  Spec.score (t b) (x (ix2 (b 0) l)) (Spec.word (BitVec.ofNat 32 (1000000 * (b 0).val + l.val)))

/-- The reference returns, for each row, the first place of the row's largest score. -/
theorem result (d : Dev nD) (V : Valuation τ sig (Elt Ideal)) (b : S64.Idx) :
    ∃ r, Spec.First (scores (V (Proc.devRef .tc main_arg0)) (V (Proc.devRef .tc main_arg1)) b) r
      ∧ after (mainOps d).1 V (Proc.devRef .tc main_v53) b = BitVec.ofNat 32 r.val := by
  obtain ⟨k6, k7, k1⟩ := upTo_kept d V
  have w : xori (upTo d 264 V (Proc.devRef .tc main_v30_0)) (upTo d 264 V (Proc.devRef .tc main_v30_1))
    = fun i => Spec.word (flat i) := funext fun i => words_word d V i
  rw [after_eq d 264, result_read, k6, k7, k1, greedy_read, scaled_read, w]
  generalize V (Proc.devRef .tc main_arg0) = x
  generalize V (Proc.devRef .tc main_arg1) = t
  have e (u v : S64.Idx → BitVec 32) : select (cmpf CmpFPredicate.oeq t
      (broadcastInDim S64 ![] bcast_S_S64 (constant (F := Ideal) S_ FTy.f32 0#32))) u v b = if t b = (0 : EReal) then u b else v b := by
    have e' : select (cmpf CmpFPredicate.oeq t
      (broadcastInDim S64 ![] bcast_S_S64 (constant (F := Ideal) S_ FTy.f32 0#32))) u v b
      = Scalar.select (Ideal.cmp .oeq (t b) (Ideal.ofBits .f32 0x00000000#32)) (u b) (v b) := rfl
    rw [e', ofBits_zero]
    by_cases h : t b = (0 : EReal) <;> simp [Scalar.select, Ideal.cmp, h]
  rw [e]
  by_cases h : t b = (0 : EReal)
  · rw [if_pos h]
    obtain ⟨r, hr, hr'⟩ := argmax_first x b
    refine ⟨r, ?_, hr'⟩
    have : scores x t b = fun l => x (ix2 (b 0) l) := by
      funext l; unfold scores Spec.score; rw [if_pos h]
    rw [this]; exact hr
  · rw [if_neg h]
    obtain ⟨r, hr, hr'⟩ := argmax_first (addf (noiseOf (F := Ideal) fun i => Spec.word (flat i))
      (Host.divf x (broadcastInDim S64x1000000 ![0, 1] bcast_S64x1_S64x1000000_0_1
        (broadcastInDim S64x1 ![0] bcast_S64_S64x1_0 (safeOf (F := Ideal) t))))) b
    refine ⟨r, ?_, hr'⟩
    have : scores x t b = fun l => addf (noiseOf (F := Ideal) fun i => Spec.word (flat i))
      (Host.divf x (broadcastInDim S64x1000000 ![0, 1] bcast_S64x1_S64x1000000_0_1
        (broadcastInDim S64x1 ![0] bcast_S64_S64x1_0 (safeOf (F := Ideal) t)))) (ix2 (b 0) l) := by
      funext l
      rw [addf_apply, noise_apply, scaled_apply, if_neg h]
      unfold scores Spec.score
      rw [if_neg h]
      rfl
    rw [this]; exact hr

end Cert.ReferenceIdeal.Hand
end
-- ==== Proof.lean ====
module

public import proofs.«01_k».proof.Defs
public import proofs.«01_k».proof.Proof.KernelFrame
public import proofs.«01_k».proof.Proof.Run
public import proofs.«01_k».proof.Proof.RefValue

@[expose] public section

/-!
# The certificate's claims

Both programs, over the extended reals, return for each row the first place of the row's largest score: the kernel by
`Cert.KernelIdeal.Hand.run_main`, the reference by `Cert.ReferenceIdeal.Hand.result`.  There is one such place, so the
results agree.
-/

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The kernel as printed runs, keeps its arguments and ends with every counter at zero. -/
theorem kernel_frame : Cert.quiescent_Kernel := fun m g _ => Cert.Kernel.Hand.run_main m g

/-- So does the kernel over the extended reals. -/
theorem ideal_frame : Cert.quiescent_KernelIdeal := fun m g _ =>
  (θ_run _ _ _).mono (fun _ h => ⟨fun c => (h.1 c).2, h.2⟩) (Cert.KernelIdeal.Hand.run_main m g)

/-- So does the reference over the extended reals. -/
theorem reference_frame : Cert.quiescent_ReferenceIdeal := fun m g _ =>
  (θ_run _ _ _).mono (fun _ h => ⟨fun c =>
    ⟨(h.1 c Cert.ReferenceIdeal.main_arg0).trans (Cert.ReferenceIdeal.Hand.arg0_kept c _),
      (h.1 c Cert.ReferenceIdeal.main_arg1).trans (Cert.ReferenceIdeal.Hand.arg1_kept c _)⟩, h.2⟩)
    (Cert.ReferenceIdeal.Hand.run_main m g)

/-- The reference's result, at arguments that are the kernel's, is the kernel's tokens. -/
theorem reference_tokens (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (h₀ : V (Proc.devRef .tc Cert.ReferenceIdeal.main_arg0) = Cert.KernelIdeal.Hand.logits m c)
    (h₁ : V (Proc.devRef .tc Cert.ReferenceIdeal.main_arg1) = Cert.KernelIdeal.Hand.temps m c) :
    StableHlo.after (Cert.ReferenceIdeal.Hand.mainOps (F := Ideal) c).1 V (Proc.devRef .tc Cert.ReferenceIdeal.main_v53)
      = fun b : Cert.KernelIdeal.S64.Idx => Cert.KernelIdeal.Hand.token m c (b 0) := by
  funext b
  obtain ⟨r, hr, e⟩ := Cert.ReferenceIdeal.Hand.result c V b
  rw [h₀, h₁] at hr
  have hb : Cert.ReferenceIdeal.Hand.scores (Cert.KernelIdeal.Hand.logits m c) (Cert.KernelIdeal.Hand.temps m c) b
      = Cert.KernelIdeal.Hand.rowScores (Cert.KernelIdeal.Hand.logits m c) (Cert.KernelIdeal.Hand.temps m c) (b 0) := by
    obtain ⟨k, rfl⟩ : ∃ k : Fin 64, b = ValueIdx.ix1 k := ⟨b 0, funext fun a => by fin_cases a; rfl⟩
    rfl
  rw [hb] at hr
  exact e.trans (Cert.KernelIdeal.Hand.token_of_first m c (b 0) r hr)

/-- The kernel and the reference return the same tokens over the extended reals. -/
theorem tokens_equal : Cert.algebraic_KernelIdeal_ReferenceIdeal := fun m g m' g' _ hm =>
  ⟨fun c => fun b : Cert.KernelIdeal.S64.Idx => Cert.KernelIdeal.Hand.token m c (b 0),
    (θ_run _ _ _).mono (fun _ h c => h.1 c) (Cert.KernelIdeal.Hand.run_main m g),
    (θ_run _ _ _).mono (fun _ h c =>
      ⟨(h.1 c Cert.ReferenceIdeal.main_v53).trans (reference_tokens m c _ (hm c).1 (hm c).2),
        (h.1 c Cert.ReferenceIdeal.main_arg0).trans (Cert.ReferenceIdeal.Hand.arg0_kept c _),
        (h.1 c Cert.ReferenceIdeal.main_arg1).trans (Cert.ReferenceIdeal.Hand.arg1_kept c _)⟩)
      (Cert.ReferenceIdeal.Hand.run_main m' g')⟩

/-- Every claim of the certificate. -/
theorem claim : Cert.Claim := ⟨Cert.Kernel.Gen.facts, Cert.KernelIdeal.Gen.facts, Cert.ReferenceIdeal.Gen.facts,
  kernel_frame, ideal_frame, reference_frame, trivial, tokens_equal⟩

end Cert.Proof

end
